-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_KernelIdeal [hPre_tame_KernelIdeal : Cert.Pre_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_ReferenceIdeal [hPre_tame_ReferenceIdeal : Cert.Pre_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame_KernelIdeal [hKernelIdeal : Cert.KernelIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame_ReferenceIdeal [hReferenceIdeal : Cert.ReferenceIdeal.Facts] [hPre_tame_ReferenceIdeal : Cert.Pre_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tame_KernelIdeal [hKernelIdeal : Cert.KernelIdeal.Facts] [hReferenceIdeal : Cert.ReferenceIdeal.Facts] [hPre_tame_KernelIdeal : Cert.Pre_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tame_KernelIdeal : Cert.Pre_tame_KernelIdeal.Facts) (hPre_tame_ReferenceIdeal : Cert.Pre_tame_ReferenceIdeal.Facts),
    quiescent_Kernel (hKernel := hKernel)
    ∧ quiescent_KernelIdeal (hKernelIdeal := hKernelIdeal)
    ∧ quiescent_KernelIdeal_pre_tame_KernelIdeal (hKernelIdeal := hKernelIdeal) (hPre_tame_KernelIdeal := hPre_tame_KernelIdeal)
    ∧ quiescent_ReferenceIdeal (hReferenceIdeal := hReferenceIdeal)
    ∧ quiescent_ReferenceIdeal_pre_tame_ReferenceIdeal (hReferenceIdeal := hReferenceIdeal) (hPre_tame_ReferenceIdeal := hPre_tame_ReferenceIdeal)
    ∧ preserves_Kernel_KernelIdeal
    ∧ algebraic_KernelIdeal_ReferenceIdeal_pre_tame_KernelIdeal (hKernelIdeal := hKernelIdeal) (hReferenceIdeal := hReferenceIdeal) (hPre_tame_KernelIdeal := hPre_tame_KernelIdeal)
-- ==== Pre_tame_KernelIdeal.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S_ : Shape := ⟨0, ![]⟩

class Facts : Prop where
  bcast_S_S2048x2 : S_.BroadcastsInDim S2048x2 (![] : Fin 0 → Fin S2048x2.rank)
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  reducesTo_S2048x2_S_d0_1 : S2048x2.ReducesTo [0, 1] S_

variable [Facts]

def fn {F : FTy → Type} [FloatOps F] (main_arg0 : FVec F S2048x512 .f32) (main_arg1 : FVec F S512x16 .f32) (main_arg2 : IVec S2048x2 32) (main_arg3 : FVec F S4x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 16#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := Host.absf main_arg0
  let main_cst : FVec F S_ .f32 := constant S_ .f32 0x7F800000#32
  let main_v6 : FVec F S2048x512 .f32 := broadcastInDim S2048x512 ![] bcast_S_S2048x512 main_cst
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : FVec F S512x16 .f32 := Host.absf main_arg1
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_c_4 : IVec S_ 1 := constantI S_ 1 1#1
  let main_v14 : IVec S_ 1 := (fun x v => Host.reduce IntOp.andi x v reducesTo_S2048x2_S_d0_1 h_S_) main_v4 main_c_4
  let main_v15 : IVec S_ 1 := andi main_v13 main_v14
  main_v15
-- ==== Pre_tame_ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S_ : Shape := ⟨0, ![]⟩

class Facts : Prop where
  bcast_S_S2048x2 : S_.BroadcastsInDim S2048x2 (![] : Fin 0 → Fin S2048x2.rank)
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  reducesTo_S2048x2_S_d0_1 : S2048x2.ReducesTo [0, 1] S_

variable [Facts]

def fn {F : FTy → Type} [FloatOps F] (main_arg0 : FVec F S2048x512 .f32) (main_arg1 : FVec F S512x16 .f32) (main_arg2 : IVec S2048x2 32) (main_arg3 : FVec F S16x512x1024 .f32) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 16#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := Host.absf main_arg0
  let main_cst : FVec F S_ .f32 := constant S_ .f32 0x7F800000#32
  let main_v6 : FVec F S2048x512 .f32 := broadcastInDim S2048x512 ![] bcast_S_S2048x512 main_cst
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : FVec F S512x16 .f32 := Host.absf main_arg1
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_c_4 : IVec S_ 1 := constantI S_ 1 1#1
  let main_v14 : IVec S_ 1 := (fun x v => Host.reduce IntOp.andi x v reducesTo_S2048x2_S_d0_1 h_S_) main_v4 main_c_4
  let main_v15 : IVec S_ 1 := andi main_v13 main_v14
  main_v15
-- ==== Kernel.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S2048x1024 : Shape := ⟨2, ![2048, 1024]⟩
abbrev S2x2x512x512 : Shape := ⟨4, ![2, 2, 512, 512]⟩
abbrev S2x512x512 : Shape := ⟨3, ![2, 512, 512]⟩
abbrev S2048x4 : Shape := ⟨2, ![2048, 4]⟩
abbrev S12 : Shape := ⟨1, ![12]⟩
abbrev S_ : Shape := ⟨0, ![]⟩
abbrev S2048x16 : Shape := ⟨2, ![2048, 16]⟩
abbrev S2048 : Shape := ⟨1, ![2048]⟩
abbrev S2048x1 : Shape := ⟨2, ![2048, 1]⟩
abbrev S16x4 : Shape := ⟨2, ![16, 4]⟩
abbrev S512x512 : Shape := ⟨2, ![512, 512]⟩
abbrev S512x4 : Shape := ⟨2, ![512, 4]⟩
abbrev S512x1 : Shape := ⟨2, ![512, 1]⟩
abbrev S1x512x512 : Shape := ⟨3, ![1, 512, 512]⟩
abbrev S1 : Shape := ⟨1, ![1]⟩
abbrev S1x1x512x512 : Shape := ⟨4, ![1, 1, 512, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x2, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S512x16, .f32⟩
  | .local _ .vmem, ⟨2, _⟩ => ⟨S2048x2, .i32⟩
  | .local _ .vmem, ⟨3, _⟩ => ⟨S4x512x1024, .f32⟩
  | .local _ .vmem, ⟨4, _⟩ => ⟨S2048x1024, .f32⟩
  | .local _ .vmem, ⟨5, _⟩ => ⟨S2048x1024, .f32⟩
  | .local _ .vmem, ⟨6, _⟩ => ⟨S2x2x512x512, .f32⟩
  | .local _ .vmem, ⟨7, _⟩ => ⟨S2x512x512, .f32⟩
  | .local _ .vmem, ⟨8, _⟩ => ⟨S2048x4, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32 : BitVec 32 := 512#32
  let v55 : BitVec 32 := Scalar.muli v3 c512_i32
  let v56 : Index := Scalar.indexCast v55
  let c0_21 : Index := 0#32
  ![v56.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32_22 : BitVec 32 := 512#32
  let v59 : BitVec 32 := Scalar.muli v3 c512_i32_22
  let v60 : Index := Scalar.indexCast v59
  let c0_23 : Index := 0#32
  ![v60.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32_38 : BitVec 32 := 512#32
  let v89 : BitVec 32 := Scalar.muli v3 c512_i32_38
  let v90 : Index := Scalar.indexCast v89
  let c0_39 : Index := 0#32
  ![v90.toNat, 0]
def k0_off4 (d0 : Dev nD) : Fin 2 → Nat :=
  let c3_i32_19 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v53 : BitVec 32 := Scalar.subi c3_i32_19 v3
  let c512_i32_40 : BitVec 32 := 512#32
  let v94 : BitVec 32 := Scalar.muli v53 c512_i32_40
  let v95 : Index := Scalar.indexCast v94
  let c0_41 : Index := 0#32
  ![v95.toNat, 0]
def k0_off5 (d0 : Dev nD) : Fin 2 → Nat :=
  let c3_i32_19 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v53 : BitVec 32 := Scalar.subi c3_i32_19 v3
  let c512_i32_42 : BitVec 32 := 512#32
  let v98 : BitVec 32 := Scalar.muli v53 c512_i32_42
  let v99 : Index := Scalar.indexCast v98
  let c0_43 : Index := 0#32
  ![v99.toNat, 0]
def k0_off6 (d0 : Dev nD) : Fin 2 → Nat :=
  let c3_i32_19 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v53 : BitVec 32 := Scalar.subi c3_i32_19 v3
  let c512_i32_60 : BitVec 32 := 512#32
  let v128 : BitVec 32 := Scalar.muli v53 c512_i32_60
  let v129 : Index := Scalar.indexCast v128
  let c0_61 : Index := 0#32
  ![v129.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32_63 : BitVec 32 := 512#32
  let v134 : BitVec 32 := Scalar.muli v3 c512_i32_63
  let c0_i32_72 : BitVec 32 := 0#32
  ![v134.toNat, 0]
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_68 : BitVec 32 := 1#32
  let v135 : BitVec 32 := Scalar.muli v3 c1_i32_68
  let v136 : BitVec 32 := Scalar.addi c0_i32_69 v135
  v136.toNat
def k0_off8 (d0 : Dev nD) : Fin 2 → Nat :=
  let c3_i32_62 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let v133 : BitVec 32 := Scalar.subi c3_i32_62 v3
  let c512_i32_73 : BitVec 32 := 512#32
  let v144 : BitVec 32 := Scalar.muli v133 c512_i32_73
  let c0_i32_82 : BitVec 32 := 0#32
  ![v144.toNat, 0]
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_78 : BitVec 32 := 1#32
  let v145 : BitVec 32 := Scalar.muli v3 c1_i32_78
  let v146 : BitVec 32 := Scalar.addi c0_i32_79 v145
  v146.toNat
def k0_off9 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_83 : BitVec 32 := 512#32
  let v154 : BitVec 32 := Scalar.muli v4 c512_i32_83
  let v155 : Index := Scalar.indexCast v154
  let c0_84 : Index := 0#32
  ![v155.toNat, 0]
def k0_off10 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_85 : BitVec 32 := 512#32
  let v158 : BitVec 32 := Scalar.muli v4 c512_i32_85
  let v159 : Index := Scalar.indexCast v158
  let c0_86 : Index := 0#32
  ![v159.toNat, 0]
def k0_off11 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_102 : BitVec 32 := 512#32
  let v188 : BitVec 32 := Scalar.muli v4 c512_i32_102
  let v189 : Index := Scalar.indexCast v188
  let c512_103 : Index := 512#32
  ![v189.toNat, 512]
def k0_off12 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_20 : BitVec 32 := 1#32
  let v54 : BitVec 32 := Scalar.xori v4 c1_i32_20
  let c512_i32_104 : BitVec 32 := 512#32
  let v193 : BitVec 32 := Scalar.muli v54 c512_i32_104
  let v194 : Index := Scalar.indexCast v193
  let c0_105 : Index := 0#32
  ![v194.toNat, 0]
def k0_off13 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_20 : BitVec 32 := 1#32
  let v54 : BitVec 32 := Scalar.xori v4 c1_i32_20
  let c512_i32_106 : BitVec 32 := 512#32
  let v197 : BitVec 32 := Scalar.muli v54 c512_i32_106
  let v198 : Index := Scalar.indexCast v197
  let c0_107 : Index := 0#32
  ![v198.toNat, 0]
def k0_off14 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_20 : BitVec 32 := 1#32
  let v54 : BitVec 32 := Scalar.xori v4 c1_i32_20
  let c512_i32_124 : BitVec 32 := 512#32
  let v227 : BitVec 32 := Scalar.muli v54 c512_i32_124
  let v228 : Index := Scalar.indexCast v227
  let c512_125 : Index := 512#32
  ![v228.toNat, 512]
def k0_off15 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_127 : BitVec 32 := 512#32
  let v233 : BitVec 32 := Scalar.muli v4 c512_i32_127
  let c512_i32_135 : BitVec 32 := 512#32
  ![v233.toNat, 512]
def k0_dev5 (d0 : Dev nD) : Nat :=
  let c0_i32_132 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_131 : BitVec 32 := 1#32
  let v234 : BitVec 32 := Scalar.muli v4 c1_i32_131
  let v235 : BitVec 32 := Scalar.addi c0_i32_132 v234
  v235.toNat
def k0_off16 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_126 : BitVec 32 := 1#32
  let v232 : BitVec 32 := Scalar.xori v4 c1_i32_126
  let c512_i32_136 : BitVec 32 := 512#32
  let v243 : BitVec 32 := Scalar.muli v232 c512_i32_136
  let c512_i32_144 : BitVec 32 := 512#32
  ![v243.toNat, 512]
def k0_dev6 (d0 : Dev nD) : Nat :=
  let c0_i32_141 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_140 : BitVec 32 := 1#32
  let v244 : BitVec 32 := Scalar.muli v4 c1_i32_140
  let v245 : BitVec 32 := Scalar.addi c0_i32_141 v244
  v245.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_145 : BitVec 32 := 512#32
  let v253 : BitVec 32 := Scalar.muli v2 c512_i32_145
  let v254 : Index := Scalar.indexCast v253
  let c0_146 : Index := 0#32
  ![v254.toNat, 0]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_147 : BitVec 32 := 512#32
  let v257 : BitVec 32 := Scalar.muli v2 c512_i32_147
  let v258 : Index := Scalar.indexCast v257
  let c0_148 : Index := 0#32
  ![v258.toNat, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_165 : BitVec 32 := 512#32
  let v287 : BitVec 32 := Scalar.muli v2 c512_i32_165
  let v288 : Index := Scalar.indexCast v287
  let c0_166 : Index := 0#32
  ![v288.toNat, 0]
def k0_off20 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_187 : BitVec 32 := 512#32
  let v326 : BitVec 32 := Scalar.muli v4 c512_i32_187
  let v327 : Index := Scalar.indexCast v326
  let c0_188 : Index := 0#32
  ![v327.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_209 : BitVec 32 := 512#32
  let v365 : BitVec 32 := Scalar.muli v2 c512_i32_209
  let v366 : Index := Scalar.indexCast v365
  let c512_210 : Index := 512#32
  ![v366.toNat, 512]
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32_231 : BitVec 32 := 512#32
  let v404 : BitVec 32 := Scalar.muli v3 c512_i32_231
  let v405 : Index := Scalar.indexCast v404
  let c512_232 : Index := 512#32
  ![v405.toNat, 512]
def k0_off23 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c512_i32_281 : BitVec 32 := 512#32
  let v453 : BitVec 32 := Scalar.muli v4 c512_i32_281
  let c0_i32_289 : BitVec 32 := 0#32
  ![v453.toNat, 0]
def k0_dev7 (d0 : Dev nD) : Nat :=
  let c0_i32_286 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_285 : BitVec 32 := 1#32
  let v454 : BitVec 32 := Scalar.muli v4 c1_i32_285
  let v455 : BitVec 32 := Scalar.addi c0_i32_286 v454
  v455.toNat
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c512_i32_338 : BitVec 32 := 512#32
  let v507 : BitVec 32 := Scalar.muli v3 c512_i32_338
  let c512_i32_345 : BitVec 32 := 512#32
  ![v507.toNat, 512]
def k0_dev8 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_341 : BitVec 32 := 1#32
  let v508 : BitVec 32 := Scalar.muli v3 c1_i32_341
  let v509 : BitVec 32 := Scalar.addi c0_i32_342 v508
  v509.toNat
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_369 : BitVec 32 := 512#32
  let v539 : BitVec 32 := Scalar.muli v2 c512_i32_369
  let c0_i32_374 : BitVec 32 := 0#32
  ![v539.toNat, 0]
def k0_dev9 (d0 : Dev nD) : Nat :=
  let c0_i32_373 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_372 : BitVec 32 := 1#32
  let v540 : BitVec 32 := Scalar.muli v4 c1_i32_372
  let v541 : BitVec 32 := Scalar.addi c0_i32_373 v540
  v541.toNat
def k0_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_399 : BitVec 32 := 512#32
  let v570 : BitVec 32 := Scalar.muli v2 c512_i32_399
  let c512_i32_403 : BitVec 32 := 512#32
  ![v570.toNat, 512]
def k0_dev10 (d0 : Dev nD) : Nat :=
  let c0_i32_402 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_401 : BitVec 32 := 1#32
  let v571 : BitVec 32 := Scalar.muli v3 c1_i32_401
  let v572 : BitVec 32 := Scalar.addi c0_i32_402 v571
  v572.toNat
def k0_dev11 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_420 : BitVec 32 := 1#32
  let v591 : BitVec 32 := Scalar.muli v3 c1_i32_420
  let v592 : BitVec 32 := Scalar.addi c0_i32_421 v591
  v592.toNat
def k0_dev12 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_427 : BitVec 32 := 1#32
  let v601 : BitVec 32 := Scalar.muli v3 c1_i32_427
  let v602 : BitVec 32 := Scalar.addi c0_i32_428 v601
  v602.toNat
def k0_dev13 (d0 : Dev nD) : Nat :=
  let c0_i32_446 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_445 : BitVec 32 := 1#32
  let v621 : BitVec 32 := Scalar.muli v4 c1_i32_445
  let v622 : BitVec 32 := Scalar.addi c0_i32_446 v621
  v622.toNat
def k0_dev14 (d0 : Dev nD) : Nat :=
  let c0_i32_453 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_452 : BitVec 32 := 1#32
  let v631 : BitVec 32 := Scalar.muli v4 c1_i32_452
  let v632 : BitVec 32 := Scalar.addi c0_i32_453 v631
  v632.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x16x1024 : Shape := ⟨3, ![2048, 16, 1024]⟩
abbrev S2048x2x1024 : Shape := ⟨3, ![2048, 2, 1024]⟩
abbrev S2048x1x1024 : Shape := ⟨3, ![2048, 1, 1024]⟩
abbrev S2048x1024 : Shape := ⟨2, ![2048, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x2, .i32⟩
  | .hbm, ⟨3, _⟩ => ⟨S16x512x1024, .f32⟩
  | .hbm, ⟨4, _⟩ => ⟨S2048x16, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x16, .f32⟩
  | .hbm, ⟨15, _⟩ => ⟨S2048x16, .f32⟩
  | .hbm, ⟨16, _⟩ => ⟨S_, .i32⟩
  | .hbm, ⟨17, _⟩ => ⟨S2048x2, .i32⟩
  | .hbm, ⟨18, _⟩ => ⟨S2048x2, .i1⟩
  | .hbm, ⟨19, _⟩ => ⟨S_, .i32⟩
  | .hbm, ⟨20, _⟩ => ⟨S2048x2, .i32⟩
  | .hbm, ⟨21, _⟩ => ⟨S2048x2, .i32⟩
  | .hbm, ⟨22, _⟩ => ⟨S2048x2, .i32⟩
  | .hbm, ⟨23, _⟩ => ⟨S2048x2x1, .i32⟩
  | .hbm, ⟨24, _⟩ => ⟨S2048x2, .f32⟩
  | .hbm, ⟨25, _⟩ => ⟨S2048x16x1024, .f32⟩
  | .hbm, ⟨26, _⟩ => ⟨S2048x2x1, .i32⟩
  | .hbm, ⟨27, _⟩ => ⟨S_, .i32⟩
  | .hbm, ⟨28, _⟩ => ⟨S2048x2x1, .i32⟩
  | .hbm, ⟨29, _⟩ => ⟨S2048x2x1, .i1⟩
  | .hbm, ⟨30, _⟩ => ⟨S_, .i32⟩
  | .hbm, ⟨31, _⟩ => ⟨S2048x2x1, .i32⟩
  | .hbm, ⟨32, _⟩ => ⟨S2048x2x1, .i32⟩
  | .hbm, ⟨33, _⟩ => ⟨S2048x2x1, .i32⟩
  | .hbm, ⟨34, _⟩ => ⟨S2048x2x1024, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S2048x1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Proof.Blocks.lean ====
/-
The blocks of the four-device mixture-of-experts kernel: which devices exchange, the 512×512 blocks
the buffers are cut into, and the rules for reading and writing one block that is owned.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The partners of a device -/

/-- The partner whose number differs in the low bit. -/
def pA : Dev nD → Dev nD := fun c => (![1, 0, 3, 2] : Fin 4 → Fin 4) c
/-- The partner with the number `3 - c`. -/
def pB : Dev nD → Dev nD := fun c => (![3, 2, 1, 0] : Fin 4 → Fin 4) c
/-- The remaining device. -/
def dg : Dev nD → Dev nD := fun c => (![2, 3, 0, 1] : Fin 4 → Fin 4) c

theorem pA_pA (c : Dev nD) : pA (pA c) = c := by revert c; decide
theorem pB_pB (c : Dev nD) : pB (pB c) = c := by revert c; decide
theorem dg_dg (c : Dev nD) : dg (dg c) = c := by revert c; decide
theorem pA_pB (c : Dev nD) : pA (pB c) = dg c := by revert c; decide
theorem pB_pA (c : Dev nD) : pB (pA c) = dg c := by revert c; decide
theorem dg_pA (c : Dev nD) : dg (pA c) = pB c := by revert c; decide
theorem dg_pB (c : Dev nD) : dg (pB c) = pA c := by revert c; decide

/-! ## The blocks -/

/-- Where row block `q`, column half `h` starts. -/
abbrev boff (q : Dev nD) (h : Fin 2) : Fin 2 → Nat := ![512 * q.val, 512 * h.val]
theorem boff_inb (q : Dev nD) (h : Fin 2) : ∀ a, boff q h a + S512x512.size a ≤ S2048x1024.size a := by
  revert q h; decide
/-- Where row block `q` of a matrix with one column block starts. -/
abbrev roff (q : Dev nD) : Fin 2 → Nat := ![512 * q.val, 0]
theorem xoff_inb (q : Dev nD) : ∀ a, roff q a + S512x512.size a ≤ S2048x512.size a := by revert q; decide
theorem goff_inb (q : Dev nD) : ∀ a, roff q a + S512x4.size a ≤ S2048x4.size a := by revert q; decide
abbrev woff (j : Fin 4) (h : Fin 2) : Fin 3 → Nat := ![j.val, 0, 512 * h.val]
theorem woff_inb (j : Fin 4) (h : Fin 2) : ∀ a, woff j h a + S1x512x512.size a ≤ S4x512x1024.size a := by revert j h; decide
abbrev r1off (h k : Fin 2) : Fin 4 → Nat := ![h.val, k.val, 0, 0]
theorem r1off_inb (h k : Fin 2) : ∀ a, r1off h k a + S1x1x512x512.size a ≤ S2x2x512x512.size a := by revert h k; decide
abbrev r2off (h : Fin 2) : Fin 3 → Nat := ![h.val, 0, 0]
theorem r2off_inb (h : Fin 2) : ∀ a, r2off h a + S1x512x512.size a ≤ S2x512x512.size a := by revert h; decide

abbrev brect (q : Dev nD) (h : Fin 2) : Rect S2048x1024 := Rect.unit (s := S2048x1024) (boff q h) S512x512.size (boff_inb q h)

/-- Block `(q, h)` of the running sums. -/
abbrev accM (q : Dev nD) (h : Fin 2) : Memref sig .tc .vmem S512x512 .f32 :=
  (Memref.whole cc0_scratch0).slice (brect q h) (fun _ => rfl)
/-- Block `(q, h)` of the result. -/
abbrev outM (q : Dev nD) (h : Fin 2) : Memref sig .tc .vmem S512x512 .f32 :=
  (Memref.whole cc0_stg4_0).slice (brect q h) (fun _ => rfl)
/-- The landing block of the first exchange, half `h`, transfer `k`. -/
abbrev r1M (h k : Fin 2) : Memref sig .tc .vmem S512x512 .f32 :=
  ((Memref.whole cc0_scratch1).slice (Rect.unit (s := S2x2x512x512) (r1off h k) S1x1x512x512.size (r1off_inb h k)) (fun _ => rfl)).squeeze
    S512x512 squeezes_S1x1x512x512_S512x512
/-- The landing block of the second exchange, half `h`. -/
abbrev r2M (h : Fin 2) : Memref sig .tc .vmem S512x512 .f32 :=
  ((Memref.whole cc0_scratch2).slice (Rect.unit (s := S2x512x512) (r2off h) S1x512x512.size (r2off_inb h)) (fun _ => rfl)).squeeze
    S512x512 squeezes_S1x512x512_S512x512

/-- Device `c` owns a block, which holds `X`. -/
abbrev own (c : Dev nD) (mr : Memref sig .tc .vmem S512x512 .f32) (X : Vec F S512x512 .f32) : sProp 𝕄 :=
  owns (c : Thread nD τ) mr fullShare X
/-- Device `c` owns a block, whatever it holds. -/
abbrev owned (c : Dev nD) (mr : Memref sig .tc .vmem S512x512 .f32) : sProp 𝕄 := iprop(∃ X, own (F := F) c mr X)
/-- Device `c` owns a whole buffer, which holds `f`. -/
abbrev pt (c : Dev nD) (b : Ref sig .tc) (f : Buf (Elt F) ((c : Thread nD τ).loc b)) : sProp 𝕄 := ((c : Thread nD τ).loc b) ↦{fullShare} f

/-- The weakest precondition of a kernel program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Mem

variable {α : Type} (c : Dev nD)

/-- Reading an owned block of a buffer through the buffer continues at what the block holds. -/
theorem load_blk {sh : Shape} (mr : Memref sig .tc .vmem sh .f32) {o o' : Fin sh.rank → Nat} {sz : Fin sh.rank → Nat} (ho : o = o')
    {hin : ∀ a, o a + sz a ≤ sh.size a} {hin' : ∀ a, o' a + sz a ≤ sh.size a}
    {hl : mr.view.LoadsAt (Rect.unit (s := sh) o sz hin).toLoadRect}
    {X : (Rect.unit (s := sh) o' sz hin').shape.Idx → Elt F .f32}
    {k : ((Rect.unit (s := sh) o sz hin).toLoadRect.shape.Idx → Elt F .f32) → Prog (TpuEff nD τ sig (Elt F) Λ₀ .tc) α} {Q : α → sProp 𝕄} :
    (owns (c : Thread nD τ) (mr.slice (Rect.unit (s := sh) o' sz hin') (fun _ => rfl)) fullShare X : sProp 𝕄)
      ⊢ iprop((owns (c : Thread nD τ) (mr.slice (Rect.unit (s := sh) o' sz hin') (fun _ => rfl)) fullShare X -∗ WP c (k X) Q)
        -∗ WP c (.op (.load mr (Rect.unit (s := sh) o sz hin).toLoadRect hl) k) Q) := by
  subst ho
  unfold owns
  iintro ⟨%f, %hf, H⟩ Hk
  subst hf
  iapply (wp_load 𝒱₀ (c : Thread nD τ) none Set.univ (m := mr) (S := (mr.slice (Rect.unit (s := sh) o sz hin) (fun _ => rfl)).view.set)
    (View.set_slice mr.view (Rect.unit (s := sh) o sz hin)).symm.subset) $$ H
  iintro H
  iapply Hk
  iexists f
  isplitr; · ipureintro; rfl
  iexact H

/-- Reading, through the buffer, a block owned with its unit axes dropped continues at what it holds, reshaped. -/
theorem load_sq {sh sh' : Shape} (mr : Memref sig .tc .vmem sh .f32) {o o' : Fin sh.rank → Nat} {sz : Fin sh.rank → Nat} (ho : o = o')
    {hin : ∀ a, o a + sz a ≤ sh.size a} {hin' : ∀ a, o' a + sz a ≤ sh.size a}
    {hl : mr.view.LoadsAt (Rect.unit (s := sh) o sz hin).toLoadRect}
    {hs : (Rect.unit (s := sh) o' sz hin').shape.Squeezes sh'} {X : sh'.Idx → Elt F .f32}
    {k : ((Rect.unit (s := sh) o sz hin).toLoadRect.shape.Idx → Elt F .f32) → Prog (TpuEff nD τ sig (Elt F) Λ₀ .tc) α} {Q : α → sProp 𝕄} :
    (owns (c : Thread nD τ) ((mr.slice (Rect.unit (s := sh) o' sz hin') (fun _ => rfl)).squeeze sh' hs) fullShare X : sProp 𝕄)
      ⊢ iprop((∀ Y : (Rect.unit (s := sh) o sz hin).shape.Idx → Elt F .f32, ⌜∀ h, shapeCast (s := (Rect.unit (s := sh) o sz hin).shape) sh' Y h = X⌝ -∗
          owns (c : Thread nD τ) ((mr.slice (Rect.unit (s := sh) o' sz hin') (fun _ => rfl)).squeeze sh' hs) fullShare X -∗ WP c (k Y) Q)
        -∗ WP c (.op (.load mr (Rect.unit (s := sh) o sz hin).toLoadRect hl) k) Q) := by
  subst ho
  unfold owns
  iintro ⟨%f, %hf, H⟩ Hk
  subst hf
  iapply (wp_load 𝒱₀ (c : Thread nD τ) none Set.univ (m := mr) (S := ((mr.slice (Rect.unit (s := sh) o sz hin) (fun _ => rfl)).squeeze sh' hs).view.set)
    ((View.set_slice mr.view (Rect.unit (s := sh) o sz hin)).symm.trans (View.set_reshape _ hs.numel_eq).symm).subset) $$ H
  iintro H
  iapply Hk $$ %_ %(fun h => rfl)
  iexists f
  isplitr; · ipureintro; rfl
  iexact H

/-- Writing all of an owned block of a buffer through the buffer leaves the block holding what was written. -/
theorem store_blk {sh : Shape} (mr : Memref sig .tc .vmem sh .f32) {o o' : Fin sh.rank → Nat} {sz : Fin sh.rank → Nat} (ho : o = o')
    {hin : ∀ a, o a + sz a ≤ sh.size a} {hin' : ∀ a, o' a + sz a ≤ sh.size a}
    {w : (Rect.unit (s := sh) o sz hin).shape.Idx → Elt F .f32} {hx : (mr.access (Rect.unit (s := sh) o sz hin)).Stores Finset.univ}
    {hm : Finset.univ = Finset.univ ∨ ∀ a, (Rect.unit (s := sh) o sz hin).stride a = 1}
    {X : (Rect.unit (s := sh) o' sz hin').shape.Idx → Elt F .f32}
    {k : PUnit → Prog (TpuEff nD τ sig (Elt F) Λ₀ .tc) α} {Q : α → sProp 𝕄} :
    (owns (c : Thread nD τ) (mr.slice (Rect.unit (s := sh) o' sz hin') (fun _ => rfl)) fullShare X : sProp 𝕄)
      ⊢ iprop((owns (c : Thread nD τ) (mr.slice (Rect.unit (s := sh) o' sz hin') (fun _ => rfl)) fullShare w -∗ WP c (k ⟨⟩) Q)
        -∗ WP c (.op (.store mr (Rect.unit (s := sh) o sz hin) w Finset.univ hx hm) k) Q) := by
  subst ho
  unfold owns
  iintro ⟨%f, %hf, H⟩ Hk
  iapply (wp_store 𝒱₀ (c : Thread nD τ) none Set.univ (m := mr) (r := Rect.unit (s := sh) o sz hin) (Mk := Finset.univ)
    (S := (mr.slice (Rect.unit (s := sh) o sz hin) (fun _ => rfl)).view.set) (Finset.Subset.refl _)) $$ H
  iintro H
  iapply Hk
  iexists _
  isplitr; swap; · iexact H
  ipureintro; exact View.read_write_univ f w

/-- Reading a rectangle of a wholly owned buffer, the start given by any equal spelling. -/
theorem load_at {sh : Shape} {e : EltTy} (mr : Memref sig .tc .vmem sh e) {o o' : Fin sh.rank → Nat} {sz : Fin sh.rank → Nat} (ho : o = o')
    {hin : ∀ a, o a + sz a ≤ sh.size a} (hin' : ∀ a, o' a + sz a ≤ sh.size a)
    {hl : mr.view.LoadsAt (Rect.unit (s := sh) o sz hin).toLoadRect}
    {f : Buf (Elt F) (mr.view.loc (c : Thread nD τ))}
    {k : ((Rect.unit (s := sh) o sz hin).toLoadRect.shape.Idx → Elt F e) → Prog (TpuEff nD τ sig (Elt F) Λ₀ .tc) α} {Q : α → sProp 𝕄} :
    ((mr.view.loc (c : Thread nD τ)) ↦{fullShare} f : sProp 𝕄)
      ⊢ iprop((((mr.view.loc (c : Thread nD τ)) ↦{fullShare} f) -∗ WP c (k (mr.view.readAt (Elt F) (Rect.unit (s := sh) o' sz hin').toLoadRect f)) Q)
        -∗ WP c (.op (.load mr (Rect.unit (s := sh) o sz hin).toLoadRect hl) k) Q) := by
  subst ho
  exact wp_load 𝒱₀ (c : Thread nD τ) none Set.univ (m := mr) (Finset.subset_univ _)

end Mem

end Cert.MoeProof

end
-- ==== Proof.Protocol.lean ====
/-
The exchange protocol: what each block holds, the twelve transfers every device makes, the cells their
semaphores are counted in, and the schedule of payments with the contents handed over.
-/
module

public import proofs.«01_k».proof.Proof.Blocks

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents -/

/-- What every device's staged inputs hold. -/
structure Ins (F : FTy → Type) where
  x : Dev nD → (cc0_stg0_0 : Ref sig .tc).ty.Contents (Elt F)
  rw : Dev nD → (cc0_stg1_0 : Ref sig .tc).ty.Contents (Elt F)
  idx : Dev nD → (cc0_stg2_0 : Ref sig .tc).ty.Contents (Elt F)
  ew : Dev nD → (cc0_stg3_0 : Ref sig .tc).ty.Contents (Elt F)

/-- Row block `q` of the tokens. -/
def xq (x : (cc0_stg0_0 : Ref sig .tc).ty.Contents (Elt F)) (q : Dev nD) : Vec F S512x512 .f32 :=
  (Memref.whole cc0_stg0_0).view.readAt (Elt F) (Rect.unit (s := S2048x512) (roff q) S512x512.size (xoff_inb q)).toLoadRect x
/-- Row block `q` of the gates. -/
def gq (g : (cc0_scratch3 : Ref sig .tc).ty.Contents (Elt F)) (q : Dev nD) : Vec F S512x4 .f32 :=
  (Memref.whole cc0_scratch3).view.readAt (Elt F) (Rect.unit (s := S2048x4) (roff q) S512x4.size (goff_inb q)).toLoadRect g
/-- Column half `h` of a device's expert number `j`. -/
def wq (w : (cc0_stg3_0 : Ref sig .tc).ty.Contents (Elt F)) (j : Fin 4) (h : Fin 2) : Vec F S1x512x512 .f32 :=
  (Memref.whole cc0_stg3_0).view.readAt (Elt F) (Rect.unit (s := S4x512x1024) (woff j h) S1x512x512.size (woff_inb j h)).toLoadRect w
theorem ioff_inb (k : Fin 2) : ∀ a, (![0, k.val] : Fin 2 → Nat) a + S2048x1.size a ≤ S2048x2.size a := by revert k; decide
/-- Column `k` of the chosen experts. -/
def icol (i : (cc0_stg2_0 : Ref sig .tc).ty.Contents (Elt F)) (k : Fin 2) : Vec F S2048x1 .i32 :=
  (Memref.whole cc0_stg2_0).view.readAt (Elt F) (Rect.unit (s := S2048x2) ![0, k.val] S2048x1.size (ioff_inb k)).toLoadRect i

/-- Device `c`'s number as the kernel computes it. -/
abbrev wordOf (c : Dev nD) : BitVec 32 := Scalar.remsi (Scalar.divsi (Dev.word c) 1#32) 4#32

/-- The gates of device `c`'s four experts, for every token. -/
def gat (ins : Ins F) (c : Dev nD) : (cc0_scratch3 : Ref sig .tc).ty.Contents (Elt F) :=
  k0_pay4 (wordOf c) (k0_pay1 (ins.x c) (ins.rw c)) (k0_pay2 (icol (ins.idx c) 0)) (k0_pay3 (icol (ins.idx c) 1))

/-- One row block of tokens through four experts, weighted by their gates and summed. -/
def blk (xb : Vec F S512x512 .f32) (gb : Vec F S512x4 .f32) (w0 w1 w2 w3 : Vec F S1x512x512 .f32) : Vec F S512x512 .f32 :=
  k0_pay9 (k0_pay5 xb) gb (k0_pay6 xb gb w0) (k0_pay7 xb w1) (k0_pay8 gb) w2 w3

/-- Device `c`'s share of block `(q, h)` of the result. -/
def part (ins : Ins F) (c q : Dev nD) (h : Fin 2) : Vec F S512x512 .f32 :=
  blk (xq (ins.x c) q) (gq (gat ins c) q) (wq (ins.ew c) 0 h) (wq (ins.ew c) 1 h) (wq (ins.ew c) 2 h) (wq (ins.ew c) 3 h)

/-- The partner a device exchanges with first, and second, for column half `h`. -/
def p1 (h : Fin 2) : Dev nD → Dev nD := if h = 0 then pA else pB
def p2 (h : Fin 2) : Dev nD → Dev nD := if h = 0 then pB else pA

/-- The sum over a device and its first partner of their shares of block `(q, h)`. -/
def pair (ins : Ins F) (c q : Dev nD) (h : Fin 2) : Vec F S512x512 .f32 :=
  addf (part ins c q h) (part ins (p1 h c) q h)
/-- Block `(q, h)` of the result: the shares of all four devices. -/
def res (ins : Ins F) (q : Dev nD) (h : Fin 2) : Vec F S512x512 .f32 :=
  addf (pair ins q q h) (pair ins (p2 h q) q h)

/-! ## The transfers -/

/-- Which partner: `pA` or `pB`. -/
def nb (b : Bool) : Dev nD → Dev nD := if b then pB else pA
theorem nb_nb (b : Bool) (c : Dev nD) : nb b (nb b c) = c := by revert b c; decide
theorem nb_inj {b b' : Bool} {c : Dev nD} (h : nb b c = nb b' c) : b = b' := by revert b b' c; decide

/-- Which partner transfer `s` goes to, and comes from. -/
def side (s : Fin 12) : Bool := (![false, false, true, true, false, false, true, true, false, false, true, true] : Fin 12 → Bool) s
def peer (s : Fin 12) (c : Dev nD) : Dev nD := nb (side s) c
theorem peer_peer (s : Fin 12) (c : Dev nD) : peer s (peer s c) = c := nb_nb _ c

/-- What transfer `s` of device `c` reads. -/
def srcM (s : Fin 12) (c : Dev nD) : Memref sig .tc .vmem S512x512 .f32 :=
  match s with
  | 0 => accM (pA c) 0 | 1 => accM (dg c) 0 | 2 => accM (pB c) 0 | 3 => outM c 0 | 4 => outM c 0 | 5 => outM (pB c) 0
  | 6 => accM (pB c) 1 | 7 => accM (dg c) 1 | 8 => accM (pA c) 1 | 9 => outM c 1 | 10 => outM c 1 | 11 => outM (pA c) 1
/-- Where transfer `s` of device `c` lands, on its partner. -/
def dstM (s : Fin 12) (c : Dev nD) : Memref sig .tc .vmem S512x512 .f32 :=
  match s with
  | 0 => r1M 0 0 | 1 => r1M 0 1 | 2 => r2M 0 | 3 => outM c 0 | 4 => outM c 0 | 5 => outM (pB c) 0
  | 6 => r1M 1 0 | 7 => r1M 1 1 | 8 => r2M 1 | 9 => outM c 1 | 10 => outM c 1 | 11 => outM (pA c) 1
/-- What transfer `s` of device `c` carries. -/
def val (ins : Ins F) (s : Fin 12) (c : Dev nD) : Vec F S512x512 .f32 :=
  match s with
  | 0 => part ins c (pA c) 0 | 1 => part ins c (dg c) 0 | 2 => pair ins c (pB c) 0
  | 3 => res ins c 0 | 4 => res ins c 0 | 5 => res ins (pB c) 0
  | 6 => part ins c (pB c) 1 | 7 => part ins c (dg c) 1 | 8 => pair ins c (pA c) 1
  | 9 => res ins c 1 | 10 => res ins c 1 | 11 => res ins (pA c) 1

/-! ## Semaphores and cells -/

/-- The runtime's barrier semaphore. -/
abbrev barS : Sem sig := (SemArray.scalar (sig.barrier 0 rfl) : Sems sig S_).sem
/-- The semaphores that count transfer `s` read out, and landed. -/
def sendS (s : Fin 12) : DmaSem sig := (⟨5 + s.val, by omega⟩ : Fin 29)
def recvS (s : Fin 12) : DmaSem sig := (⟨17 + s.val, by omega⟩ : Fin 29)

abbrev barCell (c : Dev nD) : GSem nD τ sig := ((c : Thread nD τ), .reg barS)
abbrev sendCell (c : Dev nD) (s : Fin 12) : GSem nD τ sig := ((c : Thread nD τ), .dma (sendS s))
abbrev recvCell (c : Dev nD) (s : Fin 12) : GSem nD τ sig := ((c : Thread nD τ), .dma (recvS s))

/-- The transfer a semaphore counts: read out (`false`) or landed (`true`). -/
def xslot (g : SemLoc sig) : Option (Bool × Fin 12) :=
  match g with
  | .reg _ => none
  | .dma q => if (q : Fin 29).val < 5 then none else if (q : Fin 29).val < 17 then some (false, Fin.ofNat 12 ((q : Fin 29).val - 5))
      else some (true, Fin.ofNat 12 ((q : Fin 29).val - 17))
theorem xslot_send (s : Fin 12) : xslot (.dma (sendS s)) = some (false, s) := by revert s; decide
theorem xslot_recv (s : Fin 12) : xslot (.dma (recvS s)) = some (true, s) := by revert s; decide

/-- What one block's transfer counts. -/
abbrev N : ℕ := (accM 0 0).view.dmaCredit
theorem N_pos : 0 < N := View.dmaCredit_pos _ (by decide)
theorem credit_eq (mr : Memref sig .tc .vmem S512x512 .f32) : mr.view.dmaCredit = N := rfl

/-! ## The schedule -/

/-- What the partner `nb b c`'s signal hands `c`: the places on the partner that `c`'s transfers to it land in. -/
def barPay (c : Dev nD) (b : Bool) : sProp 𝕄 :=
  bigSep (Finset.univ.filter fun s : Fin 12 => side s = b) fun s => owned (F := F) (peer s c) (dstM s c)
def sendPay (ins : Ins F) (c : Dev nD) (s : Fin 12) : sProp 𝕄 := own c (srcM s c) (val ins s c)
def recvPay (ins : Ins F) (c : Dev nD) (s : Fin 12) : sProp 𝕄 := own c (dstM s (peer s c)) (val ins s (peer s c))

/-- One round: a barrier cell has two duties of one unit each, `b` paid by the partner `nb b`; the two cells of a
    transfer one duty each, of the block's credit. -/
def sched (ins : Ins F) : Rounds.Schedule (GSem nD τ sig) Bool 𝕄 where
  duties g r := if r = 0 ∧ g.1.2 = .tc then (if g.2 = .reg barS then Finset.univ else if (xslot g.2).isSome then {false} else ∅) else ∅
  unitless _ := False
  amount g _ _ := if g.2 = .reg barS then 1 else N
  payload g _ d := if g.2 = .reg barS then barPay g.1.1 d else
    match xslot g.2 with
    | some (false, s) => sendPay ins g.1.1 s
    | some (true, s) => recvPay ins g.1.1 s
    | none => iprop(emp)
  amount_pos g _ _ _ := by
    by_cases h : g.2 = .reg barS
    · rw [if_pos h]; exact Nat.one_pos
    · rw [if_neg h]; exact N_pos

instance barPay_storable (c : Dev nD) (b : Bool) : BI.Storable (upEmb : UEmb _ 𝕄) (barPay (F := F) c b) := by
  unfold barPay; infer_instance
instance sendPay_storable (ins : Ins F) (c : Dev nD) (s : Fin 12) : BI.Storable (upEmb : UEmb _ 𝕄) (sendPay ins c s) := by
  unfold sendPay; infer_instance
instance recvPay_storable (ins : Ins F) (c : Dev nD) (s : Fin 12) : BI.Storable (upEmb : UEmb _ 𝕄) (recvPay ins c s) := by
  unfold recvPay; infer_instance
instance sched_payload_storable (ins : Ins F) (g : GSem nD τ sig) (r : ℕ) (d : Bool) :
    BI.Storable (upEmb : UEmb _ 𝕄) ((sched ins).payload g r d) := by
  show BI.Storable upEmb (if g.2 = .reg barS then barPay g.1.1 d else
    match xslot g.2 with
    | some (false, s) => sendPay ins g.1.1 s
    | some (true, s) => recvPay ins g.1.1 s
    | none => iprop(emp))
  (repeat' split) <;> infer_instance

section Sched
variable (ins : Ins F) (c : Dev nD) (s : Fin 12)

theorem dma_ne_bar (q : DmaSem sig) : (SemLoc.dma q : SemLoc sig) ≠ .reg barS := fun h => by cases h

theorem duties_bar : (sched ins).duties (barCell c) 0 = Finset.univ := by
  dsimp only [sched]; rw [if_pos ⟨rfl, rfl⟩, if_pos rfl]
theorem duties_send : (sched ins).duties (sendCell c s) 0 = {false} := by
  dsimp only [sched]; rw [if_pos ⟨rfl, rfl⟩, if_neg (dma_ne_bar _), xslot_send]; rfl
theorem duties_recv : (sched ins).duties (recvCell c s) 0 = {false} := by
  dsimp only [sched]; rw [if_pos ⟨rfl, rfl⟩, if_neg (dma_ne_bar _), xslot_recv]; rfl
theorem duties_later (g : GSem nD τ sig) : ∀ r, 1 ≤ r → (sched ins).duties g r = ∅ :=
  fun r hr => by dsimp only [sched]; rw [if_neg fun h => by omega]
theorem amount_bar (d : Bool) : (sched ins).amount (barCell c) 0 d = 1 := by dsimp only [sched]; exact if_pos rfl
theorem amount_dma (q : DmaSem sig) (d : Bool) : (sched ins).amount ((c : Thread nD τ), .dma q) 0 d = N := by
  dsimp only [sched]; exact if_neg (dma_ne_bar _)
theorem expect_bar : (sched ins).expect (barCell c) 0 = 2 := by
  unfold Schedule.expect Schedule.amountOf
  rw [duties_bar, Finset.sum_congr rfl fun d _ => amount_bar ins c d, Finset.sum_const, Finset.card_univ, Fintype.card_bool, smul_eq_mul]
theorem expect_send : (sched ins).expect (sendCell c s) 0 = N := by
  unfold Schedule.expect Schedule.amountOf; rw [duties_send, Finset.sum_singleton, amount_dma]
theorem expect_recv : (sched ins).expect (recvCell c s) 0 = N := by
  unfold Schedule.expect Schedule.amountOf; rw [duties_recv, Finset.sum_singleton, amount_dma]
theorem payload_bar (d : Bool) : (sched ins).payload (barCell c) 0 d = barPay c d := by dsimp only [sched]; rw [if_pos rfl]
theorem payload_send (d : Bool) : (sched ins).payload (sendCell c s) 0 d = sendPay ins c s := by
  dsimp only [sched]; rw [if_neg (dma_ne_bar _), xslot_send]
theorem payload_recv (d : Bool) : (sched ins).payload (recvCell c s) 0 d = recvPay ins c s := by
  dsimp only [sched]; rw [if_neg (dma_ne_bar _), xslot_recv]

theorem rest_bar : bigSep ((sched ins).duties (barCell c) 0 \ ∅) (fun d => (sched ins).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((sched ins).duties (sendCell c s) 0 \ ∅) (fun d => (sched ins).payload (sendCell c s) 0 d) = sendPay ins c s := by
  rw [Finset.sdiff_empty, duties_send, bigSep_singleton, payload_send]
theorem rest_recv : bigSep ((sched ins).duties (recvCell c s) 0 \ ∅) (fun d => (sched ins).payload (recvCell c s) 0 d) = recvPay ins c s := by
  rw [Finset.sdiff_empty, duties_recv, bigSep_singleton, payload_recv]

end Sched

/-! ## What a device owes, and the levels -/

/-- What device `c` owes its partners' cells for the transfers still to be made. -/
def Orem (c : Dev nD) : List (Fin 12) → CellTallies nD τ sig Unit
  | [] => 0
  | s :: l => Orem c l + tallyAt (recvCell (peer s c) s) () N
/-- The transfers in the order they are issued. -/
abbrev order : List (Fin 12) := [0, 1, 6, 7, 2, 8, 3, 9, 4, 5, 10, 11]
def O₁ (c : Dev nD) : CellTallies nD τ sig Unit := Orem c order + tallyAt (barCell (pB c)) () 1
def O₀ (c : Dev nD) : CellTallies nD τ sig Unit := O₁ c + tallyAt (barCell (pA c)) () 1

theorem Orem_pos {c : Dev nD} {l : List (Fin 12)} {g : GSem nD τ sig} {u : Unit} (h : 0 < Orem c l g u) :
    ∃ s ∈ l, g = recvCell (peer s c) s := by
  induction l with
  | nil => exact absurd h (Nat.lt_irrefl 0)
  | cons s l ih =>
    unfold Orem at h
    rw [Pi.add_apply, Finsupp.add_apply, tallyAt_apply] at h
    by_cases hg : g = recvCell (peer s c) s
    · exact ⟨s, List.mem_cons_self .., hg⟩
    · rw [if_neg (fun h' => hg h'.1), Nat.add_zero] at h
      obtain ⟨s', hs', h'⟩ := ih h
      exact ⟨s', List.mem_cons_of_mem _ hs', h'⟩

def L (g : GSem nD τ sig) : Finset Unit := if g.1.2 = .tc then {()} else ∅
/-- How late in the protocol transfer `s` lands. -/
def rlev (s : Fin 12) : ℕ := (![2, 2, 3, 4, 5, 5, 2, 2, 3, 4, 5, 5] : Fin 12 → ℕ) s
def slev (g : SemLoc sig) : ℕ := if g = .reg barS then 1 else
  match xslot g with
  | some (true, s) => rlev s
  | _ => 0
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl
theorem slev_bar : slev (.reg barS) = 1 := by unfold slev; exact if_pos rfl
theorem slev_recv (s : Fin 12) : slev (.dma (recvS s)) = rlev s := by unfold slev; rw [if_neg (dma_ne_bar _), xslot_recv]
theorem slev_send (s : Fin 12) : slev (.dma (sendS s)) = 0 := by unfold slev; rw [if_neg (dma_ne_bar _), xslot_send]
theorem rlev_gt (s : Fin 12) : 1 < rlev s := by revert s; decide

/-- A device may wait on a semaphore below every transfer it has still to make. -/
theorem mayWait_rem (c : Dev nD) (sm : SemLoc sig) (l : List (Fin 12)) (h : ∀ s ∈ l, slev sm < rlev s) :
    (levAts L lv : sProp 𝕄) ⊢ MayWait (c : Thread nD τ) sm () (Orem c l) :=
  MayOwe.of_cut (L := L) (lev := lv) (slev sm) (fun p hp => by rw [Finset.mem_singleton.mp hp, L_tc]; exact Finset.mem_singleton_self _)
    (fun g u hg => by obtain ⟨s, hs, rfl⟩ := Orem_pos hg; exact Finset.mem_singleton_self _)
    (fun p hp => by rw [Finset.mem_singleton.mp hp]; exact Nat.le_refl _)
    (fun g u hg => by obtain ⟨s, hs, rfl⟩ := Orem_pos hg; show _ < slev _; rw [slev_recv]; exact h s hs)

theorem O₀_pos {c : Dev nD} {g : GSem nD τ sig} {u : Unit} (h : 0 < O₀ c g u) :
    (∃ s, g = recvCell (peer s c) s) ∨ g = barCell (pB c) ∨ g = barCell (pA c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨s, -, hs⟩ := Orem_pos (show 0 < Orem c order g u from h)
  exact hn.1 ⟨s, hs⟩

theorem mayWait_stage (c : Dev nD) (q : DmaSem sig) (hq : slev (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | rfl | rfl <;> exact Finset.mem_singleton_self _)
      (fun p hp => by rw [Finset.mem_singleton.mp hp]; exact hq.le)
      (fun g u hg => by
        rcases O₀_pos hg with ⟨s, rfl⟩ | rfl | rfl
        · show 0 < slev _; rw [slev_recv]; have := rlev_gt s; omega
        · show 0 < slev _; rw [slev_bar]; decide
        · show 0 < slev _; rw [slev_bar]; decide)
  · rw [MayWait_zero]; iintro -; iempintro

end Cert.MoeProof

end
-- ==== Proof.Steps.lean ====
/-
One step of the exchange at a time: making a transfer, waiting until it has been read out, waiting until
the partner's has landed, and the entry handshake.
-/
module

public import proofs.«01_k».proof.Proof.Protocol

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Which cell of a device: the barrier's, a read-out cell, a landing cell. -/
abbrev Cl : Type := Unit ⊕ (Fin 12 ⊕ Fin 12)
def csem : Cl → SemLoc sig
  | .inl _ => .reg barS
  | .inr (.inl s) => .dma (sendS s)
  | .inr (.inr s) => .dma (recvS s)
abbrev kcell (ck : Dev nD × Cl) : GSem nD τ sig := ((ck.1 : Thread nD τ), csem ck.2)
abbrev bIx : Cl := .inl ()
abbrev sIx (s : Fin 12) : Cl := .inr (.inl s)
abbrev vIx (s : Fin 12) : Cl := .inr (.inr s)

/-- What all devices know throughout: every cell's invariant, that every cell has reached round 0, and the levels. -/
def recs (ins : Ins F) (K : Dev nD × Cl → ℕ) : sProp 𝕄 :=
  iprop((bigSep Finset.univ fun ck : Dev nD × Cl => cellInv ER (sched ins) (K ck) (kcell ck))
    ∗ (bigSep Finset.univ fun ck : Dev nD × Cl => reached ER (kcell ck) 0) ∗ levAts L lv)

instance recs_persistent (ins : Ins F) (K : Dev nD × Cl → ℕ) : BI.Persistent (recs ins K) := by unfold recs; infer_instance

section Recs
variable (ins : Ins F) (K : Dev nD × Cl → ℕ) (c : Dev nD) (s : Fin 12)

theorem inv_at (ck : Dev nD × Cl) : recs ins K ⊢ cellInv ER (sched ins) (K ck) (kcell ck) := by
  refine BI.Entails.trans (show recs ins K ⊢ bigSep Finset.univ fun ck : Dev nD × Cl => cellInv ER (sched ins) (K ck) (kcell ck) from ?_)
    (bigSep_elim (Finset.mem_univ ck))
  unfold recs; iintro ⟨H, -, -⟩; iexact H
theorem reached_at (ck : Dev nD × Cl) : recs ins K ⊢ (reached ER (kcell ck) 0 : sProp 𝕄) := by
  refine BI.Entails.trans (show recs ins K ⊢ (bigSep Finset.univ fun ck : Dev nD × Cl => reached ER (kcell ck) 0 : sProp 𝕄) from ?_)
    (bigSep_elim (Finset.mem_univ ck))
  unfold recs; iintro ⟨-, H, -⟩; iexact H
theorem lev_at : recs ins K ⊢ (levAts L lv : sProp 𝕄) := by unfold recs; iintro ⟨-, -, H⟩; iexact H

theorem inv_bar : recs ins K ⊢ cellInv ER (sched ins) (K (c, bIx)) (barCell c) := inv_at ins K (c, bIx)
theorem inv_send : recs ins K ⊢ cellInv ER (sched ins) (K (c, sIx s)) (sendCell c s) := inv_at ins K (c, sIx s)
theorem inv_recv : recs ins K ⊢ cellInv ER (sched ins) (K (c, vIx s)) (recvCell c s) := inv_at ins K (c, vIx s)
theorem re_bar : recs ins K ⊢ (reached ER (barCell c) 0 : sProp 𝕄) := reached_at ins K (c, bIx)
theorem re_send : recs ins K ⊢ (reached ER (sendCell c s) 0 : sProp 𝕄) := reached_at ins K (c, sIx s)
theorem re_recv : recs ins K ⊢ (reached ER (recvCell c s) 0 : sProp 𝕄) := reached_at ins K (c, vIx s)
end Recs

/-! ## The stages of a transfer -/

/-- Transfer `s` of device `c` has not been made: its tokens and positions, and the credit of the one that comes in. -/
def ready (s : Fin 12) (c : Dev nD) : sProp 𝕄 :=
  iprop(dutyTok ER (sendCell c s) 0 false ∗ dutyTok ER (recvCell (peer s c) s) 0 false
    ∗ atPos ER (sendCell c s) 0 ∅ 0 ∗ atPos ER (recvCell c s) 0 ∅ 0 ∗ cred (tallyAt (recvCell c s) () N))
/-- It has been made and nothing waited for. -/
def flying (s : Fin 12) (c : Dev nD) : sProp 𝕄 :=
  iprop(cred (tallyAt (sendCell c s) () N) ∗ atPos ER (sendCell c s) 0 ∅ 0 ∗ atPos ER (recvCell c s) 0 ∅ 0 ∗ cred (tallyAt (recvCell c s) () N))
/-- It has been read out; the one that comes in has not been waited for. -/
def half (s : Fin 12) (c : Dev nD) : sProp 𝕄 :=
  iprop(semVal (sendCell c s) 0 ∗ atPos ER (recvCell c s) 0 ∅ 0 ∗ cred (tallyAt (recvCell c s) () N))
/-- Both are done and their counters are zero. -/
def over (s : Fin 12) (c : Dev nD) : sProp 𝕄 := iprop(semVal (sendCell c s) 0 ∗ semVal (recvCell c s) 0)
/-- Device `c` owes the transfers `l`. -/
def due (c : Dev nD) (l : List (Fin 12)) : sProp 𝕄 := iprop(∃ W, owes (c : Thread nD τ) (Orem c l) W)

section Slot
variable (ins : Ins F) (K : Dev nD × Cl → ℕ) (c : Dev nD) (s : Fin 12)

theorem dst_peer : dstM s (peer s (peer s c)) = dstM s c := by rw [peer_peer]

/-- Making transfer `s`: the block it reads and the place it lands in go, the rest of the debt stays. -/
theorem slot_send (l : List (Fin 12)) {n : Dev nD} (hn : n = peer s c) {src dst : Memref sig .tc .vmem S512x512 .f32}
    {A : Memref sig .tc .vmem S512x512 .f32} {X : Vec F S512x512 .f32} (hs : src = A) (hA : A = srcM s c) (hX : X = val ins s c) (hd : dst = dstM s c) {sS sV : DmaSem sig} (hS : sS = sendS s) (hV : sV = recvS s)
    {hsc : (dst : Memref sig (Dev.tc n : Thread nD τ).2.kind .vmem S512x512 .f32).view.ref.isScScratch = false}
    {hsrc : src.view.WordExact} {hdst : dst.view.WordExact}
    {hsem : DmaTarget.Typed .vmem (.dma sV) (.remote (Dev.tc n : Thread nD τ) dst (.dma sS) hsc)}
    {α : Type} {Q : α → sProp 𝕄} {k : PUnit → Prog (TpuEff nD τ sig (Elt F) Λ₀ .tc) α} :
    recs ins K ⊢ iprop(own c A X -∗ owned (F := F) (peer s c) (dstM s c) -∗ ready (F := F) s c -∗ due (F := F) c (s :: l)
          -∗ ((flying (F := F) s c ∗ due (F := F) c l) -∗ WP c (k ⟨⟩) Q)
          -∗ WP c (.op (.enqueueDma src (.remote (Dev.tc n : Thread nD τ) dst (.dma sS) hsc) (.dma sV) hsrc hdst hsem) k) Q) := by
  subst hn hs hA hX hd hS hV
  unfold ready due flying owned own owns
  iintro #HR ⟨%fs, %hfs, Hs⟩ ⟨%Xd, %fd, %hfd, Hd⟩ ⟨HtS, HtV, HaS, HaV, HcV⟩ ⟨%W, HO⟩ Hk
  iapply (Rounds.wp_send_pointsTo 𝒱₀ ER (sched ins) (c : Thread nD τ) none (c' := (peer s c : Thread nD τ)) (src := srcM s c) (dst := dstM s c)
      (sS := .dma (sendS s)) (sem := .dma (recvS s))
      (κ₁ := K (c, sIx s)) (κ₂ := K (peer s c, vIx s))
      (r₁ := 0) (r₂ := 0) (d₁ := false) (d₂ := false) (fs := fs) (fd := fd)
      (by rw [duties_send]; exact Finset.mem_singleton_self _) (by rw [duties_recv]; exact Finset.mem_singleton_self _)
      () () N (credit_eq _) (amount_dma ins c _ false) (amount_dma ins (peer s c) _ false) (Orem c l) rfl (W := W)
      (by
        rw [payload_send]; unfold sendPay own owns
        iintro H; iexists fs; isplitr; · ipureintro; exact hfs
        iexact H)
      (by
        rw [payload_recv]; unfold recvPay; rw [peer_peer]; unfold own owns
        iintro H; iexists _; isplitr; swap; · iexact H
        ipureintro; exact (View.read_write_univ _ _).trans hfs))
    $$ [Hs Hd HO HtS HtV]
  · isplitr; · iapply (inv_send ins K c s); iexact HR
    isplitr; · iapply (inv_recv ins K (peer s c) s); iexact HR
    isplitl [Hs]; · iexact Hs
    isplitl [Hd]; · iexact Hd
    isplitl [HO]; · iexact HO
    isplitl [HtS]; · iexact HtS
    isplitr; · iapply (re_send ins K c s); iexact HR
    isplitl [HtV]; · iexact HtV
    iapply (re_recv ins K (peer s c) s); iexact HR
  iintro ⟨HcS, HO⟩
  iapply Hk
  isplitl [HcS HaS HaV HcV]
  · isplitl [HcS]; · iexact HcS
    isplitl [HaS]; · iexact HaS
    isplitl [HaV]; · iexact HaV
    iexact HcV
  iexists W; iexact HO

/-- Waiting until transfer `s` has been read out: its block comes back. -/
theorem slot_waitS (l : List (Fin 12)) (hl : ∀ s ∈ l, 0 < rlev s) {sS : DmaSem sig} (hS : sS = sendS s)
    {A : Memref sig .tc .vmem S512x512 .f32} {X : Vec F S512x512 .f32} (hA : srcM s c = A) (hX : val ins s c = X)
    {a b : Memref sig .tc .vmem S512x512 .f32} {ha : a.view.WordExact} {hb : b.view.WordExact}
    {α : Type} {Q : α → sProp 𝕄} {k : PUnit → Prog (TpuEff nD τ sig (Elt F) Λ₀ .tc) α} :
    recs ins K ⊢ iprop(flying (F := F) s c -∗ due (F := F) c l
          -∗ ((half (F := F) s c ∗ own c A X ∗ due (F := F) c l) -∗ WP c (k ⟨⟩) Q)
          -∗ WP c (.op (.waitDma2 sS a b ha hb) k) Q) := by
  subst hS hA hX
  unfold due flying half
  iintro #HR ⟨HcS, HaS, HaV, HcV⟩ ⟨%W, HO⟩ Hk
  iapply (Rounds.wp_wait_rest_token 𝒱₀ ER (sched ins) (c : Thread nD τ) none (κ := K (c, sIx s))
      (wpE_waitDma2_eq 𝒱₀ (c : Thread nD τ) none Set.univ) (Set.mem_univ _) () (O := Orem c l) (W := W) (R := 0) (m := 0) (T := ∅)
      (by rw [Nat.zero_add, expect_send])) $$ [HcS HO HaS]
  · isplitr; · iapply (inv_send ins K c s); iexact HR
    isplitl [HcS]; · iexact HcS
    isplitl [HO]; · iexact HO
    isplitr
    · iapply (mayWait_rem (F := F) c (.dma (sendS s)) l (by rw [slev_send]; exact hl))
      iapply (lev_at ins K); iexact HR
    iexact HaS
  iintro ⟨HO, HaS, -, Hpay⟩
  ihave Hb := (Entails.of_eq (rest_send ins c s)) $$ Hpay
  unfold sendPay
  imod (Rounds.cell_close ER (sched ins) (Set.mem_univ (K (c, sIx s))) (fun h => h) (R := 0 + 1) (duties_later ins (sendCell c s))) $$ [HaS] with HzS
  · isplitr; · iapply (inv_send ins K c s); iexact HR
    iexact HaS
  iapply Hk
  isplitl [HzS HaV HcV]
  · isplitl [HzS]; · iexact HzS
    isplitl [HaV] <;> iassumption
  isplitl [Hb]; · iexact Hb
  iexists _; iexact HO

/-- Waiting until the partner's transfer `s` has landed: the landing block comes back holding what it carried. -/
theorem slot_waitV (l : List (Fin 12)) (hl : ∀ s' ∈ l, rlev s < rlev s') {sV : DmaSem sig} (hV : sV = recvS s)
    {A : Memref sig .tc .vmem S512x512 .f32} {X : Vec F S512x512 .f32} (hA : dstM s (peer s c) = A) (hX : val ins s (peer s c) = X)
    {a b : Memref sig .tc .vmem S512x512 .f32} {ha : a.view.WordExact} {hb : b.view.WordExact}
    {α : Type} {Q : α → sProp 𝕄} {k : PUnit → Prog (TpuEff nD τ sig (Elt F) Λ₀ .tc) α} :
    recs ins K ⊢ iprop(half (F := F) s c -∗ due (F := F) c l
          -∗ ((over (F := F) s c ∗ own c A X ∗ due (F := F) c l) -∗ WP c (k ⟨⟩) Q)
          -∗ WP c (.op (.waitDma2 sV a b ha hb) k) Q) := by
  subst hV hA hX
  unfold due half over
  iintro #HR ⟨HzS, HaV, HcV⟩ ⟨%W, HO⟩ Hk
  iapply (Rounds.wp_wait_rest_token 𝒱₀ ER (sched ins) (c : Thread nD τ) none (κ := K (c, vIx s))
      (wpE_waitDma2_eq 𝒱₀ (c : Thread nD τ) none Set.univ) (Set.mem_univ _) () (O := Orem c l) (W := W) (R := 0) (m := 0) (T := ∅)
      (by rw [Nat.zero_add, expect_recv])) $$ [HcV HO HaV]
  · isplitr; · iapply (inv_recv ins K c s); iexact HR
    isplitl [HcV]; · iexact HcV
    isplitl [HO]; · iexact HO
    isplitr
    · iapply (mayWait_rem (F := F) c (.dma (recvS s)) l (by rw [slev_recv]; exact hl))
      iapply (lev_at ins K); iexact HR
    iexact HaV
  iintro ⟨HO, HaV, -, Hpay⟩
  ihave Hb := (Entails.of_eq (rest_recv ins c s)) $$ Hpay
  unfold recvPay
  imod (Rounds.cell_close ER (sched ins) (Set.mem_univ (K (c, vIx s))) (fun h => h) (R := 0 + 1) (duties_later ins (recvCell c s))) $$ [HaV] with HzV
  · isplitr; · iapply (inv_recv ins K c s); iexact HR
    iexact HaV
  iapply Hk
  isplitl [HzS HzV]
  · isplitl [HzS] <;> iassumption
  isplitl [Hb]; · iexact Hb
  iexists _; iexact HO

end Slot

end Cert.MoeProof

end
-- ==== Proof.Parts1.lean ====
/-
The kernel's body, first half, one printed part after another: the entry handshake, the gates, and the
eight blocks of a device's own shares, with the first four transfers made as soon as their blocks are ready.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the blocks are -/

theorem off1 (c : Dev nD) : k0_off1 c = roff (pA c) := by revert c; decide
theorem off2 (c : Dev nD) : k0_off2 c = roff (pA c) := by revert c; decide
theorem off3 (c : Dev nD) : k0_off3 c = boff (pA c) 0 := by revert c; decide
theorem off4 (c : Dev nD) : k0_off4 c = roff (dg c) := by revert c; decide
theorem off5 (c : Dev nD) : k0_off5 c = roff (dg c) := by revert c; decide
theorem off6 (c : Dev nD) : k0_off6 c = boff (dg c) 0 := by revert c; decide
theorem off7 (c : Dev nD) : k0_off7 c = boff (pA c) 0 := by revert c; decide
theorem off8 (c : Dev nD) : k0_off8 c = boff (dg c) 0 := by revert c; decide
theorem off9 (c : Dev nD) : k0_off9 c = roff (pB c) := by revert c; decide
theorem off10 (c : Dev nD) : k0_off10 c = roff (pB c) := by revert c; decide
theorem off11 (c : Dev nD) : k0_off11 c = boff (pB c) 1 := by revert c; decide
theorem off12 (c : Dev nD) : k0_off12 c = roff (dg c) := by revert c; decide
theorem off13 (c : Dev nD) : k0_off13 c = roff (dg c) := by revert c; decide
theorem off14 (c : Dev nD) : k0_off14 c = boff (dg c) 1 := by revert c; decide
theorem off15 (c : Dev nD) : k0_off15 c = boff (pB c) 1 := by revert c; decide
theorem off16 (c : Dev nD) : k0_off16 c = boff (dg c) 1 := by revert c; decide
theorem off17 (c : Dev nD) : k0_off17 c = roff c := by revert c; decide
theorem off18 (c : Dev nD) : k0_off18 c = roff c := by revert c; decide
theorem off19 (c : Dev nD) : k0_off19 c = boff c 0 := by revert c; decide
theorem off20 (c : Dev nD) : k0_off20 c = boff (pB c) 0 := by revert c; decide
theorem off21 (c : Dev nD) : k0_off21 c = boff c 1 := by revert c; decide
theorem off22 (c : Dev nD) : k0_off22 c = boff (pA c) 1 := by revert c; decide
theorem off23 (c : Dev nD) : k0_off23 c = boff (pB c) 0 := by revert c; decide
theorem off24 (c : Dev nD) : k0_off24 c = boff (pA c) 1 := by revert c; decide
theorem off25 (c : Dev nD) : k0_off25 c = boff c 0 := by revert c; decide
theorem off26 (c : Dev nD) : k0_off26 c = boff c 1 := by revert c; decide

theorem dev1 (c : Dev nD) : (⟨k0_dev1 c, k0_dev1_lt c⟩ : Dev nD) = pA c := by revert c; decide
theorem dev2 (c : Dev nD) : (⟨k0_dev2 c, k0_dev2_lt c⟩ : Dev nD) = pB c := by revert c; decide
theorem dev3 (c : Dev nD) : (⟨k0_dev3 c, k0_dev3_lt c⟩ : Dev nD) = peer 0 c := by revert c; decide
theorem dev4 (c : Dev nD) : (⟨k0_dev4 c, k0_dev4_lt c⟩ : Dev nD) = peer 1 c := by revert c; decide
theorem dev5 (c : Dev nD) : (⟨k0_dev5 c, k0_dev5_lt c⟩ : Dev nD) = peer 6 c := by revert c; decide
theorem dev6 (c : Dev nD) : (⟨k0_dev6 c, k0_dev6_lt c⟩ : Dev nD) = peer 7 c := by revert c; decide
theorem dev7 (c : Dev nD) : (⟨k0_dev7 c, k0_dev7_lt c⟩ : Dev nD) = peer 2 c := by revert c; decide
theorem dev8 (c : Dev nD) : (⟨k0_dev8 c, k0_dev8_lt c⟩ : Dev nD) = peer 8 c := by revert c; decide
theorem dev9 (c : Dev nD) : (⟨k0_dev9 c, k0_dev9_lt c⟩ : Dev nD) = peer 3 c := by revert c; decide
theorem dev10 (c : Dev nD) : (⟨k0_dev10 c, k0_dev10_lt c⟩ : Dev nD) = peer 9 c := by revert c; decide
theorem dev11 (c : Dev nD) : (⟨k0_dev11 c, k0_dev11_lt c⟩ : Dev nD) = peer 4 c := by revert c; decide
theorem dev12 (c : Dev nD) : (⟨k0_dev12 c, k0_dev12_lt c⟩ : Dev nD) = peer 5 c := by revert c; decide
theorem dev13 (c : Dev nD) : (⟨k0_dev13 c, k0_dev13_lt c⟩ : Dev nD) = peer 10 c := by revert c; decide
theorem dev14 (c : Dev nD) : (⟨k0_dev14 c, k0_dev14_lt c⟩ : Dev nD) = peer 11 c := by revert c; decide

/-- A slice of a buffer whose start is given by an equal spelling is the same slice. -/
theorem slice_eq {sh : Shape} (mr : Memref sig .tc .vmem sh .f32) {o o' : Fin sh.rank → Nat} {sz : Fin sh.rank → Nat} (ho : o = o')
    (hin : ∀ a, o a + sz a ≤ sh.size a) (hin' : ∀ a, o' a + sz a ≤ sh.size a) :
    mr.slice (Rect.unit (s := sh) o sz hin) (fun _ => rfl) = mr.slice (Rect.unit (s := sh) o' sz hin') (fun _ => rfl) := by
  subst ho; rfl

/-! ## Reading what stays on the device -/

/-- Device `c`'s tokens, experts and gates. -/
def inp (ins : Ins F) (c : Dev nD) : sProp 𝕄 :=
  iprop(pt c cc0_stg0_0 (ins.x c) ∗ pt c cc0_stg3_0 (ins.ew c) ∗ pt c cc0_scratch3 (gat ins c))

section Reads
variable (ins : Ins F) (c : Dev nD) {α : Type}

theorem load_x {o : Fin 2 → Nat} (q : Dev nD) (ho : o = roff q) {hin : ∀ a, o a + S512x512.size a ≤ S2048x512.size a}
    {hl : (Memref.whole cc0_stg0_0).view.LoadsAt (Rect.unit (s := S2048x512) o S512x512.size hin).toLoadRect}
    {k : Vec F S512x512 .f32 → Prog (TpuEff nD τ sig (Elt F) Λ₀ .tc) α} {Q : α → sProp 𝕄} :
    inp ins c ⊢ iprop((inp ins c -∗ WP c (k (xq (ins.x c) q)) Q)
      -∗ WP c (.op (.load (Memref.whole cc0_stg0_0) (Rect.unit (s := S2048x512) o S512x512.size hin).toLoadRect hl) k) Q) := by
  unfold inp
  iintro ⟨Hx, Hw, Hg⟩ Hk
  iapply (load_at c (Memref.whole cc0_stg0_0) ho (xoff_inb q)) $$ Hx
  iintro Hx
  iapply Hk
  isplitl [Hx]; · iexact Hx
  isplitl [Hw] <;> iassumption

theorem load_w {o : Fin 3 → Nat} (j : Fin 4) (h : Fin 2) (ho : o = woff j h) {hin : ∀ a, o a + S1x512x512.size a ≤ S4x512x1024.size a}
    {hl : (Memref.whole cc0_stg3_0).view.LoadsAt (Rect.unit (s := S4x512x1024) o S1x512x512.size hin).toLoadRect}
    {k : Vec F S1x512x512 .f32 → Prog (TpuEff nD τ sig (Elt F) Λ₀ .tc) α} {Q : α → sProp 𝕄} :
    inp ins c ⊢ iprop((inp ins c -∗ WP c (k (wq (ins.ew c) j h)) Q)
      -∗ WP c (.op (.load (Memref.whole cc0_stg3_0) (Rect.unit (s := S4x512x1024) o S1x512x512.size hin).toLoadRect hl) k) Q) := by
  unfold inp
  iintro ⟨Hx, Hw, Hg⟩ Hk
  iapply (load_at c (Memref.whole cc0_stg3_0) ho (woff_inb j h)) $$ Hw
  iintro Hw
  iapply Hk
  isplitl [Hx]; · iexact Hx
  isplitl [Hw] <;> iassumption

theorem load_g {o : Fin 2 → Nat} (q : Dev nD) (ho : o = roff q) {hin : ∀ a, o a + S512x4.size a ≤ S2048x4.size a}
    {hl : (Memref.whole cc0_scratch3).view.LoadsAt (Rect.unit (s := S2048x4) o S512x4.size hin).toLoadRect}
    {k : Vec F S512x4 .f32 → Prog (TpuEff nD τ sig (Elt F) Λ₀ .tc) α} {Q : α → sProp 𝕄} :
    inp ins c ⊢ iprop((inp ins c -∗ WP c (k (gq (gat ins c) q)) Q)
      -∗ WP c (.op (.load (Memref.whole cc0_scratch3) (Rect.unit (s := S2048x4) o S512x4.size hin).toLoadRect hl) k) Q) := by
  unfold inp
  iintro ⟨Hx, Hw, Hg⟩ Hk
  iapply (load_at c (Memref.whole cc0_scratch3) ho (goff_inb q)) $$ Hg
  iintro Hg
  iapply Hk
  isplitl [Hx]; · iexact Hx
  isplitl [Hw] <;> iassumption

theorem hz : (![0, 0] : Fin 2 → Nat) = fun _ => 0 := funext fun a => by fin_cases a <;> rfl

/-- Reading a rectangle of a wholly owned buffer, what is read given by any equal value. -/
theorem load_val {sh : Shape} {e : EltTy} (mr : Memref sig .tc .vmem sh e) {o : Fin sh.rank → Nat} {sz : Fin sh.rank → Nat}
    {hin : ∀ a, o a + sz a ≤ sh.size a} {hl : mr.view.LoadsAt (Rect.unit (s := sh) o sz hin).toLoadRect}
    {f : Buf (Elt F) (mr.view.loc (c : Thread nD τ))} {v : (Rect.unit (s := sh) o sz hin).toLoadRect.shape.Idx → Elt F e}
    (hv : mr.view.readAt (Elt F) (Rect.unit (s := sh) o sz hin).toLoadRect f = v)
    {k : ((Rect.unit (s := sh) o sz hin).toLoadRect.shape.Idx → Elt F e) → Prog (TpuEff nD τ sig (Elt F) Λ₀ .tc) α} {Q : α → sProp 𝕄} :
    ((mr.view.loc (c : Thread nD τ)) ↦{fullShare} f : sProp 𝕄)
      ⊢ iprop((((mr.view.loc (c : Thread nD τ)) ↦{fullShare} f) -∗ WP c (k v) Q) -∗ WP c (.op (.load mr (Rect.unit (s := sh) o sz hin).toLoadRect hl) k) Q) := by
  subst hv; exact load_at c mr rfl hin

/-- Reading all the tokens. -/
theorem load_all_x {hin : ∀ a, (![0, 0] : Fin 2 → Nat) a + S2048x512.size a ≤ S2048x512.size a}
    {hl : (Memref.whole cc0_stg0_0).view.LoadsAt (Rect.unit (s := S2048x512) ![0, 0] S2048x512.size hin).toLoadRect} {f : Vec F S2048x512 .f32}
    {k : Vec F S2048x512 .f32 → Prog (TpuEff nD τ sig (Elt F) Λ₀ .tc) α} {Q : α → sProp 𝕄} :
    pt c cc0_stg0_0 f ⊢ iprop((pt c cc0_stg0_0 f -∗ WP c (k f) Q)
      -∗ WP c (.op (.load (Memref.whole cc0_stg0_0) (Rect.unit (s := S2048x512) ![0, 0] S2048x512.size hin).toLoadRect hl) k) Q) := by
  exact load_val c (Memref.whole cc0_stg0_0) (Memref.readAt_unit_zero (Elt F) cc0_stg0_0 hz hin f)

/-- Reading all the router's weights. -/
theorem load_all_rw {hin : ∀ a, (![0, 0] : Fin 2 → Nat) a + S512x16.size a ≤ S512x16.size a}
    {hl : (Memref.whole cc0_stg1_0).view.LoadsAt (Rect.unit (s := S512x16) ![0, 0] S512x16.size hin).toLoadRect} {f : Vec F S512x16 .f32}
    {k : Vec F S512x16 .f32 → Prog (TpuEff nD τ sig (Elt F) Λ₀ .tc) α} {Q : α → sProp 𝕄} :
    pt c cc0_stg1_0 f ⊢ iprop((pt c cc0_stg1_0 f -∗ WP c (k f) Q)
      -∗ WP c (.op (.load (Memref.whole cc0_stg1_0) (Rect.unit (s := S512x16) ![0, 0] S512x16.size hin).toLoadRect hl) k) Q) := by
  exact load_val c (Memref.whole cc0_stg1_0) (Memref.readAt_unit_zero (Elt F) cc0_stg1_0 hz hin f)

/-- Reading a column of the chosen experts. -/
theorem load_i (j : Fin 2) {o : Fin 2 → Nat} (ho : o = ![0, j.val]) {hin : ∀ a, o a + S2048x1.size a ≤ S2048x2.size a}
    {hl : (Memref.whole cc0_stg2_0).view.LoadsAt (Rect.unit (s := S2048x2) o S2048x1.size hin).toLoadRect} {f : Vec F S2048x2 .i32}
    {k : Vec F S2048x1 .i32 → Prog (TpuEff nD τ sig (Elt F) Λ₀ .tc) α} {Q : α → sProp 𝕄} :
    pt c cc0_stg2_0 f ⊢ iprop((pt c cc0_stg2_0 f -∗ WP c (k (icol f j)) Q)
      -∗ WP c (.op (.load (Memref.whole cc0_stg2_0) (Rect.unit (s := S2048x2) o S2048x1.size hin).toLoadRect hl) k) Q) :=
  load_at c (Memref.whole cc0_stg2_0) ho (ioff_inb j)

end Reads

/-- Device `c`'s row block `q` of the tokens and of its gates, and its expert `j`'s column half `h`. -/
abbrev tx (ins : Ins F) (c q : Dev nD) := xq (ins.x c) q
abbrev tg (ins : Ins F) (c q : Dev nD) := gq (gat ins c) q
abbrev tw (ins : Ins F) (c : Dev nD) (j : Fin 4) (h : Fin 2) := wq (ins.ew c) j h

theorem wp_done (c : Dev nD) {α : Type} {a : α} {Q : α → sProp 𝕄} : Q a ⊢ WP c (.ret a) Q := by
  unfold WP; rw [wp_ret]; iintro H; imodintro; iexact H

section Parts
variable (ins : Ins F) (K : Dev nD × Cl → ℕ) (c : Dev nD)

/-! ## Entry -/

/-- What a device enters with for the handshake: all it owes, its two partners' barrier duties, its own barrier's position and credit. -/
def greet (c : Dev nD) : sProp 𝕄 :=
  iprop((∃ W, owes (c : Thread nD τ) (O₀ c) W) ∗ dutyTok ER (barCell (pA c)) 0 false ∗ dutyTok ER (barCell (pB c)) 0 true
    ∗ atPos ER (barCell c) 0 ∅ 0 ∗ cred (tallyAt (barCell c) () 2))

/-- Part 1: the handshake, which hands over the landing places, and the scores and masks. -/
theorem part1 {Q : _ → sProp 𝕄} :
    recs ins K ⊢ iprop(greet (F := F) c -∗ barPay (F := F) (pA c) false -∗ barPay (F := F) (pB c) true
      -∗ pt c cc0_stg0_0 (ins.x c) -∗ pt c cc0_stg1_0 (ins.rw c) -∗ pt c cc0_stg2_0 (ins.idx c)
      -∗ ((barPay (F := F) c false ∗ barPay (F := F) c true ∗ semVal (barCell c) 0 ∗ due (F := F) c order
          ∗ pt c cc0_stg0_0 (ins.x c) ∗ pt c cc0_stg1_0 (ins.rw c) ∗ pt c cc0_stg2_0 (ins.idx c))
        -∗ Q ⟨c, wordOf c, Scalar.xori (wordOf c) 1#32, Scalar.subi 3#32 (wordOf c), k0_pay1 (ins.x c) (ins.rw c),
            k0_pay2 (icol (ins.idx c) 0), k0_pay3 (icol (ins.idx c) 1)⟩)
      -∗ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [k0_part1_eq_skeleton]; unfold k0_part1_skel WP
  simp only [semSignalWord, semWaitWord, Prog.lift, Prog.bind_op, Prog.bind_ret, Prog.pure_eq_ret, wp_deviceId]
  unfold greet
  iintro #HR ⟨⟨%W, HO⟩, HtA, HtB, HaP, HcB⟩ HpA HpB Hx Hrw Hidx Hk
  simp only [dev1 c, dev2 c]
  iapply (Rounds.wp_signal 𝒱₀ ER (sched ins) (c : Thread nD τ) none (dst := (pA c : Thread nD τ)) (κ := K (pA c, bIx))
      (d := false) (by rw [duties_bar]; exact Finset.mem_univ _) ((amount_bar ins (pA c) false).trans (by decide)) () (O₁ c) rfl)
    $$ [HO HtA HpA]
  · isplitr; · iapply (inv_bar ins K (pA c)); iexact HR
    isplitl [HO]; · iexact HO
    isplitl [HtA]; · iexact HtA
    isplitl [HpA]; · rw [payload_bar]; iexact HpA
    iapply (re_bar ins K (pA c)); iexact HR
  iintro HO
  unfold O₁
  iapply (Rounds.wp_signal 𝒱₀ ER (sched ins) (c : Thread nD τ) none (dst := (pB c : Thread nD τ)) (κ := K (pB c, bIx))
      (d := true) (by rw [duties_bar]; exact Finset.mem_univ _) ((amount_bar ins (pB c) true).trans (by decide)) () (Orem c order) rfl)
    $$ [HO HtB HpB]
  · isplitr; · iapply (inv_bar ins K (pB c)); iexact HR
    isplitl [HO]; · iexact HO
    isplitl [HtB]; · iexact HtB
    isplitl [HpB]; · rw [payload_bar]; iexact HpB
    iapply (re_bar ins K (pB c)); iexact HR
  iintro HO
  iapply (Rounds.wp_wait_rest_token 𝒱₀ ER (sched ins) (c : Thread nD τ) none (κ := K (c, bIx))
      (wpE_semWait_eq 𝒱₀ (c : Thread nD τ) none Set.univ) (Set.mem_univ _) () (O := Orem c order) (W := W) (R := 0) (m := 0) (T := ∅)
      (by rw [expect_bar]; decide)) $$ [HcB HO HaP]
  · isplitr; · iapply (inv_bar ins K c); iexact HR
    isplitl [HcB]; · iexact HcB
    isplitl [HO]; · iexact HO
    isplitr; · iapply (mayWait_rem c (.reg barS) order (by rw [slev_bar]; decide)); iapply (lev_at ins K); iexact HR
    iexact HaP
  iintro ⟨HO, HaP, -, Hpay⟩
  ihave Hp := (Entails.of_eq (rest_bar ins c)) $$ Hpay
  icases Hp with ⟨HpA, HpB⟩
  imod (Rounds.cell_close ER (sched ins) (Set.mem_univ (K (c, bIx))) (fun h => h) (R := 0 + 1) (duties_later ins (barCell c))) $$ [HaP] with Hz
  · isplitr; · iapply (inv_bar ins K c); iexact HR
    iexact HaP
  ihave HO : due (F := F) c order $$ [HO]
  · unfold due; iexists _; iexact HO
  iapply (load_all_x c) $$ Hx; iintro Hx
  iapply (load_all_rw c) $$ Hrw; iintro Hrw
  iapply (load_i c 0 rfl) $$ Hidx; iintro Hidx
  iapply (load_i c 1 rfl) $$ Hidx; iintro Hidx
  iapply (wp_done c)
  iapply Hk
  isplitl [HpA]; · iexact HpA
  isplitl [HpB]; · iexact HpB
  isplitl [Hz]; · iexact Hz
  isplitl [HO]; · iexact HO
  isplitl [Hx]; · iexact Hx
  isplitl [Hrw] <;> iassumption

/-! ## The shares -/

/-- Part 2: the gates, and the beginning of the share of block `(pA c, 0)`. -/
theorem part2 {Q : _ → sProp 𝕄} (v3 v4 : BitVec 32) :
    pt c cc0_stg0_0 (ins.x c) ⊢ iprop(pt c cc0_stg3_0 (ins.ew c) -∗ (∃ f, pt c cc0_scratch3 f)
      -∗ (inp ins c -∗ Q ⟨Scalar.subi 3#32 v3, Scalar.xori v4 1#32, k0_pay5 (tx ins c (pA c)), tg ins c (pA c),
            k0_pay6 (tx ins c (pA c)) (tg ins c (pA c)) (tw ins c 0 0), k0_pay7 (tx ins c (pA c)) (tw ins c 1 0), k0_pay8 (tg ins c (pA c))⟩)
      -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c (wordOf c) v3 v4 (k0_pay1 (ins.x c) (ins.rw c)) (k0_pay2 (icol (ins.idx c) 0)) (k0_pay3 (icol (ins.idx c) 1))) Q) := by
  rw [k0_part2_eq_skeleton]; unfold k0_part2_skel WP
  simp only [Prog.lift, Prog.bind_op, Prog.bind_ret, Prog.pure_eq_ret]
  iintro Hx Hw ⟨%f, Hg⟩ Hk
  iapply (wp_load 𝒱₀ (c : Thread nD τ) none Set.univ (m := Memref.whole cc0_scratch3) (Finset.subset_univ _)) $$ Hg; iintro Hg
  iapply (wp_store 𝒱₀ (c : Thread nD τ) none Set.univ (m := Memref.whole cc0_scratch3) (r := Rect.unit (s := S2048x4) ![0, 0] S2048x4.size inb_S2048x4_S2048x4_0_0)
    (Mk := Finset.univ) (Finset.subset_univ _)) $$ Hg; iintro Hg
  have e : ((Memref.whole cc0_scratch3).access (Rect.unit (s := S2048x4) ![0, 0] S2048x4.size inb_S2048x4_S2048x4_0_0) : View sig .tc _ _ _).write (Elt F) f
      (gat ins c) Finset.univ = gat ins c := Memref.write_access_unit_zero_univ (Elt F) cc0_scratch3 hz _ f _
  ihave Hg : pt c cc0_scratch3 (gat ins c) $$ [Hg]
  · rw [← e]; iexact Hg
  ihave HI : inp ins c $$ [Hx Hw Hg]
  · unfold inp
    isplitl [Hx]; · iexact Hx
    isplitl [Hw]; · iexact Hw
    iexact Hg
  iapply (load_x ins c (pA c) (off1 c)) $$ HI; iintro HI
  iapply (load_g ins c (pA c) (off2 c)) $$ HI; iintro HI
  iapply (load_w ins c 0 0 rfl) $$ HI; iintro HI
  iapply (load_w ins c 1 0 rfl) $$ HI; iintro HI
  iapply (wp_done c)
  iapply Hk; iexact HI

/-- Part 3: the rest of the share of block `(pA c, 0)`, stored, and the beginning of the one of `(dg c, 0)`. -/
theorem part3 {Q : _ → sProp 𝕄} (v3 v53 : BitVec 32) :
    inp ins c ⊢ iprop(owned (F := F) c (accM (pA c) 0)
      -∗ ((inp ins c ∗ own c (accM (pA c) 0) (part ins c (pA c) 0))
        -∗ Q ⟨k0_pay10 (tx ins c (dg c)), tg ins c (dg c), k0_pay11 (tx ins c (dg c)) (tg ins c (dg c)) (tw ins c 0 0),
            k0_pay12 (tg ins c (dg c)), k0_pay13 (tw ins c 1 0), constant S512x512 .f32 0x00000000#32⟩)
      -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v53 (k0_pay5 (tx ins c (pA c))) (tg ins c (pA c)) (k0_pay6 (tx ins c (pA c)) (tg ins c (pA c)) (tw ins c 0 0))
          (k0_pay7 (tx ins c (pA c)) (tw ins c 1 0)) (k0_pay8 (tg ins c (pA c)))) Q) := by
  rw [k0_part3_eq_skeleton]; unfold k0_part3_skel
  simp only [Prog.lift, Prog.bind_op, Prog.bind_ret, Prog.pure_eq_ret]
  iintro HI ⟨%X, HA⟩ Hk
  iapply (load_w ins c 2 0 rfl) $$ HI; iintro HI
  iapply (load_w ins c 3 0 rfl) $$ HI; iintro HI
  iapply (load_blk c (Memref.whole cc0_scratch0) (off3 c)) $$ HA; iintro HA
  iapply (store_blk c (Memref.whole cc0_scratch0) (off3 c)) $$ HA; iintro HA
  iapply (load_x ins c (dg c) (off4 c)) $$ HI; iintro HI
  iapply (load_g ins c (dg c) (off5 c)) $$ HI; iintro HI
  iapply (load_w ins c 0 0 rfl) $$ HI; iintro HI
  iapply (load_w ins c 1 0 rfl) $$ HI; iintro HI
  iapply (wp_done c)
  iapply Hk
  isplitl [HI]; · iexact HI
  iexact HA

/-- Part 4: the share of block `(dg c, 0)`, stored; transfer 0 made. -/
theorem part4 {Q : _ → sProp 𝕄} (v3 v53 : BitVec 32) :
    recs ins K ⊢ iprop(inp ins c -∗ owned (F := F) c (accM (dg c) 0) -∗ own c (accM (pA c) 0) (part ins c (pA c) 0)
      -∗ owned (F := F) (peer 0 c) (dstM 0 c) -∗ ready (F := F) 0 c -∗ due (F := F) c order
      -∗ ((inp ins c ∗ own c (accM (dg c) 0) (part ins c (dg c) 0) ∗ flying (F := F) 0 c ∗ due (F := F) c [1, 6, 7, 2, 8, 3, 9, 4, 5, 10, 11]) -∗ Q ⟨⟩)
      -∗ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v53 (k0_pay10 (tx ins c (dg c))) (tg ins c (dg c)) (k0_pay11 (tx ins c (dg c)) (tg ins c (dg c)) (tw ins c 0 0))
            (k0_pay12 (tg ins c (dg c))) (k0_pay13 (tw ins c 1 0)) (constant S512x512 .f32 0x00000000#32)) Q) := by
  rw [k0_part4_eq_skeleton]; unfold k0_part4_skel
  simp only [Prog.lift, Prog.bind_op, Prog.bind_ret, Prog.pure_eq_ret]
  iintro #HR HI ⟨%X, HA⟩ HS HD Hr HO Hk
  iapply (load_w ins c 2 0 rfl) $$ HI; iintro HI
  iapply (load_w ins c 3 0 rfl) $$ HI; iintro HI
  iapply (load_blk c (Memref.whole cc0_scratch0) (off6 c)) $$ HA; iintro HA
  iapply (store_blk c (Memref.whole cc0_scratch0) (off6 c)) $$ HA; iintro HA
  iapply (slot_send ins K c 0 _ (dev3 c) (A := accM (pA c) 0) (X := part ins c (pA c) 0) (slice_eq _ (off7 c) _ _) rfl rfl rfl (by decide) (by decide)) $$ HR HS HD Hr HO
  iintro ⟨Hf, HO⟩
  iapply (wp_done c)
  iapply Hk
  isplitl [HI]; · iexact HI
  isplitl [HA]; · iexact HA
  isplitl [Hf] <;> iassumption

/-- Part 5: transfer 1 made; the beginning of the share of `(pB c, 1)`. -/
theorem part5 {Q : _ → sProp 𝕄} (v3 v4 : BitVec 32) :
    recs ins K ⊢ iprop(inp ins c -∗ own c (accM (dg c) 0) (part ins c (dg c) 0)
      -∗ owned (F := F) (peer 1 c) (dstM 1 c) -∗ ready (F := F) 1 c -∗ due (F := F) c [1, 6, 7, 2, 8, 3, 9, 4, 5, 10, 11]
      -∗ ((inp ins c ∗ flying (F := F) 1 c ∗ due (F := F) c [6, 7, 2, 8, 3, 9, 4, 5, 10, 11])
        -∗ Q ⟨k0_pay15 (tx ins c (pB c)), tg ins c (pB c), k0_pay16 (tx ins c (pB c)) (tg ins c (pB c)) (tw ins c 0 1) (tw ins c 1 1),
            k0_pay17 (tx ins c (pB c)) (tg ins c (pB c)) (tw ins c 2 1)⟩)
      -∗ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4) Q) := by
  rw [k0_part5_eq_skeleton]; unfold k0_part5_skel
  simp only [Prog.lift, Prog.bind_op, Prog.bind_ret, Prog.pure_eq_ret]
  iintro #HR HI HS HD Hr HO Hk
  iapply (slot_send ins K c 1 _ (dev4 c) (A := accM (dg c) 0) (X := part ins c (dg c) 0) (slice_eq _ (off8 c) _ _) rfl rfl rfl (by decide) (by decide)) $$ HR HS HD Hr HO
  iintro ⟨Hf, HO⟩
  iapply (load_x ins c (pB c) (off9 c)) $$ HI; iintro HI
  iapply (load_g ins c (pB c) (off10 c)) $$ HI; iintro HI
  iapply (load_w ins c 0 1 rfl) $$ HI; iintro HI
  iapply (load_w ins c 1 1 rfl) $$ HI; iintro HI
  iapply (load_w ins c 2 1 rfl) $$ HI; iintro HI
  iapply (wp_done c)
  iapply Hk
  isplitl [HI]; · iexact HI
  isplitl [Hf] <;> iassumption

/-- Part 6: the rest of the share of `(pB c, 1)`, stored; the beginning of the one of `(dg c, 1)`. -/
theorem part6 {Q : _ → sProp 𝕄} (v4 v54 : BitVec 32) :
    inp ins c ⊢ iprop(owned (F := F) c (accM (pB c) 1)
      -∗ ((inp ins c ∗ own c (accM (pB c) 1) (part ins c (pB c) 1))
        -∗ Q ⟨k0_pay19 (tx ins c (dg c)), tg ins c (dg c), k0_pay20 (tx ins c (dg c)) (tg ins c (dg c)) (tw ins c 0 1) (tw ins c 1 1),
            k0_pay21 (tg ins c (dg c)), k0_pay22 (tx ins c (dg c)) (tw ins c 2 1)⟩)
      -∗ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v54 (k0_pay15 (tx ins c (pB c))) (tg ins c (pB c)) (k0_pay16 (tx ins c (pB c)) (tg ins c (pB c)) (tw ins c 0 1) (tw ins c 1 1))
            (k0_pay17 (tx ins c (pB c)) (tg ins c (pB c)) (tw ins c 2 1))) Q) := by
  rw [k0_part6_eq_skeleton]; unfold k0_part6_skel
  simp only [Prog.lift, Prog.bind_op, Prog.bind_ret, Prog.pure_eq_ret]
  iintro HI ⟨%X, HA⟩ Hk
  iapply (load_w ins c 3 1 rfl) $$ HI; iintro HI
  iapply (load_blk c (Memref.whole cc0_scratch0) (off11 c)) $$ HA; iintro HA
  iapply (store_blk c (Memref.whole cc0_scratch0) (off11 c)) $$ HA; iintro HA
  iapply (load_x ins c (dg c) (off12 c)) $$ HI; iintro HI
  iapply (load_g ins c (dg c) (off13 c)) $$ HI; iintro HI
  iapply (load_w ins c 0 1 rfl) $$ HI; iintro HI
  iapply (load_w ins c 1 1 rfl) $$ HI; iintro HI
  iapply (load_w ins c 2 1 rfl) $$ HI; iintro HI
  iapply (wp_done c)
  iapply Hk
  isplitl [HI]; · iexact HI
  iexact HA

/-- Part 7: the rest of the share of `(dg c, 1)`, stored; transfer 6 made. -/
theorem part7 {Q : _ → sProp 𝕄} (v4 v54 : BitVec 32) :
    recs ins K ⊢ iprop(inp ins c -∗ owned (F := F) c (accM (dg c) 1) -∗ own c (accM (pB c) 1) (part ins c (pB c) 1)
      -∗ owned (F := F) (peer 6 c) (dstM 6 c) -∗ ready (F := F) 6 c -∗ due (F := F) c [6, 7, 2, 8, 3, 9, 4, 5, 10, 11]
      -∗ ((inp ins c ∗ own c (accM (dg c) 1) (part ins c (dg c) 1) ∗ flying (F := F) 6 c ∗ due (F := F) c [7, 2, 8, 3, 9, 4, 5, 10, 11]) -∗ Q ⟨⟩)
      -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v54 (k0_pay19 (tx ins c (dg c))) (tg ins c (dg c)) (k0_pay20 (tx ins c (dg c)) (tg ins c (dg c)) (tw ins c 0 1) (tw ins c 1 1))
            (k0_pay21 (tg ins c (dg c))) (k0_pay22 (tx ins c (dg c)) (tw ins c 2 1))) Q) := by
  rw [k0_part7_eq_skeleton]; unfold k0_part7_skel
  simp only [Prog.lift, Prog.bind_op, Prog.bind_ret, Prog.pure_eq_ret]
  iintro #HR HI ⟨%X, HA⟩ HS HD Hr HO Hk
  iapply (load_w ins c 3 1 rfl) $$ HI; iintro HI
  iapply (load_blk c (Memref.whole cc0_scratch0) (off14 c)) $$ HA; iintro HA
  iapply (store_blk c (Memref.whole cc0_scratch0) (off14 c)) $$ HA; iintro HA
  iapply (slot_send ins K c 6 _ (dev5 c) (A := accM (pB c) 1) (X := part ins c (pB c) 1) (slice_eq _ (off15 c) _ _) rfl rfl rfl (by decide) (by decide)) $$ HR HS HD Hr HO
  iintro ⟨Hf, HO⟩
  iapply (wp_done c)
  iapply Hk
  isplitl [HI]; · iexact HI
  isplitl [HA]; · iexact HA
  isplitl [Hf] <;> iassumption

/-- Part 8: transfer 7 made; the share of `(c, 0)`. -/
theorem part8 {Q : _ → sProp 𝕄} (v2 : BitVec 32) :
    recs ins K ⊢ iprop(inp ins c -∗ own c (accM (dg c) 1) (part ins c (dg c) 1)
      -∗ owned (F := F) (peer 7 c) (dstM 7 c) -∗ ready (F := F) 7 c -∗ due (F := F) c [7, 2, 8, 3, 9, 4, 5, 10, 11]
      -∗ ((inp ins c ∗ flying (F := F) 7 c ∗ due (F := F) c [2, 8, 3, 9, 4, 5, 10, 11])
        -∗ Q (k0_pay24 (tx ins c c) (tg ins c c) (tw ins c 0 0) (tw ins c 1 0) (tw ins c 2 0) (tw ins c 3 0)))
      -∗ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2) Q) := by
  rw [k0_part8_eq_skeleton]; unfold k0_part8_skel
  simp only [Prog.lift, Prog.bind_op, Prog.bind_ret, Prog.pure_eq_ret]
  iintro #HR HI HS HD Hr HO Hk
  iapply (slot_send ins K c 7 _ (dev6 c) (A := accM (dg c) 1) (X := part ins c (dg c) 1) (slice_eq _ (off16 c) _ _) rfl rfl rfl (by decide) (by decide)) $$ HR HS HD Hr HO
  iintro ⟨Hf, HO⟩
  iapply (load_x ins c c (off17 c)) $$ HI; iintro HI
  iapply (load_g ins c c (off18 c)) $$ HI; iintro HI
  iapply (load_w ins c 0 0 rfl) $$ HI; iintro HI
  iapply (load_w ins c 1 0 rfl) $$ HI; iintro HI
  iapply (load_w ins c 2 0 rfl) $$ HI; iintro HI
  iapply (load_w ins c 3 0 rfl) $$ HI; iintro HI
  iapply (wp_done c)
  iapply Hk
  isplitl [HI]; · iexact HI
  isplitl [Hf] <;> iassumption

/-- Part 9: the share of `(c, 0)` stored; most of the one of `(pB c, 0)`. -/
theorem part9 {Q : _ → sProp 𝕄} (v2 v4 : BitVec 32) :
    inp ins c ⊢ iprop(owned (F := F) c (accM c 0)
      -∗ ((inp ins c ∗ own c (accM c 0) (part ins c c 0))
        -∗ Q ⟨k0_pay27 (tx ins c (pB c)) (tg ins c (pB c)) (tw ins c 0 0) (tw ins c 1 0) (tw ins c 2 0), k0_pay28 (tx ins c (pB c)) (tw ins c 3 0),
            k0_pay29 (tg ins c (pB c))⟩)
      -∗ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 (k0_pay24 (tx ins c c) (tg ins c c) (tw ins c 0 0) (tw ins c 1 0) (tw ins c 2 0) (tw ins c 3 0))) Q) := by
  rw [k0_part9_eq_skeleton]; unfold k0_part9_skel
  simp only [Prog.lift, Prog.bind_op, Prog.bind_ret, Prog.pure_eq_ret]
  iintro HI ⟨%X, HA⟩ Hk
  iapply (load_blk c (Memref.whole cc0_scratch0) (off19 c)) $$ HA; iintro HA
  iapply (store_blk c (Memref.whole cc0_scratch0) (off19 c)) $$ HA; iintro HA
  iapply (load_x ins c (pB c) (off9 c)) $$ HI; iintro HI
  iapply (load_g ins c (pB c) (off10 c)) $$ HI; iintro HI
  iapply (load_w ins c 0 0 rfl) $$ HI; iintro HI
  iapply (load_w ins c 1 0 rfl) $$ HI; iintro HI
  iapply (load_w ins c 2 0 rfl) $$ HI; iintro HI
  iapply (load_w ins c 3 0 rfl) $$ HI; iintro HI
  iapply (wp_done c)
  iapply Hk
  isplitl [HI]; · iexact HI
  iexact HA

/-- Part 10: the share of `(pB c, 0)` stored; most of the one of `(c, 1)`. -/
theorem part10 {Q : _ → sProp 𝕄} (v2 v4 : BitVec 32) :
    inp ins c ⊢ iprop(owned (F := F) c (accM (pB c) 0)
      -∗ ((inp ins c ∗ own c (accM (pB c) 0) (part ins c (pB c) 0))
        -∗ Q ⟨k0_pay31 (tx ins c c), k0_pay32 (tx ins c c) (tg ins c c) (tw ins c 0 1) (tw ins c 1 1) (tw ins c 2 1), k0_pay33 (tg ins c c),
            k0_pay34 (tw ins c 3 1), constant S512x512 .f32 0x00000000#32⟩)
      -∗ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 (k0_pay27 (tx ins c (pB c)) (tg ins c (pB c)) (tw ins c 0 0) (tw ins c 1 0) (tw ins c 2 0))
            (k0_pay28 (tx ins c (pB c)) (tw ins c 3 0)) (k0_pay29 (tg ins c (pB c)))) Q) := by
  rw [k0_part10_eq_skeleton]; unfold k0_part10_skel
  simp only [Prog.lift, Prog.bind_op, Prog.bind_ret, Prog.pure_eq_ret]
  iintro HI ⟨%X, HA⟩ Hk
  iapply (load_blk c (Memref.whole cc0_scratch0) (off20 c)) $$ HA; iintro HA
  iapply (store_blk c (Memref.whole cc0_scratch0) (off20 c)) $$ HA; iintro HA
  iapply (load_x ins c c (off17 c)) $$ HI; iintro HI
  iapply (load_g ins c c (off18 c)) $$ HI; iintro HI
  iapply (load_w ins c 0 1 rfl) $$ HI; iintro HI
  iapply (load_w ins c 1 1 rfl) $$ HI; iintro HI
  iapply (load_w ins c 2 1 rfl) $$ HI; iintro HI
  iapply (load_w ins c 3 1 rfl) $$ HI; iintro HI
  iapply (wp_done c)
  iapply Hk
  isplitl [HI]; · iexact HI
  iexact HA

/-- Part 11: the share of `(c, 1)` stored; most of the one of `(pA c, 1)`. -/
theorem part11 {Q : _ → sProp 𝕄} (v2 v3 : BitVec 32) :
    inp ins c ⊢ iprop(owned (F := F) c (accM c 1)
      -∗ ((inp ins c ∗ own c (accM c 1) (part ins c c 1))
        -∗ Q ⟨k0_pay36 (tx ins c (pA c)), k0_pay37 (tx ins c (pA c)) (tg ins c (pA c)) (tw ins c 0 1) (tw ins c 1 1) (tw ins c 2 1),
            k0_pay38 (tg ins c (pA c)), tw ins c 3 1⟩)
      -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 (k0_pay31 (tx ins c c)) (k0_pay32 (tx ins c c) (tg ins c c) (tw ins c 0 1) (tw ins c 1 1) (tw ins c 2 1))
            (k0_pay33 (tg ins c c)) (k0_pay34 (tw ins c 3 1)) (constant S512x512 .f32 0x00000000#32)) Q) := by
  rw [k0_part11_eq_skeleton]; unfold k0_part11_skel
  simp only [Prog.lift, Prog.bind_op, Prog.bind_ret, Prog.pure_eq_ret]
  iintro HI ⟨%X, HA⟩ Hk
  iapply (load_blk c (Memref.whole cc0_scratch0) (off21 c)) $$ HA; iintro HA
  iapply (store_blk c (Memref.whole cc0_scratch0) (off21 c)) $$ HA; iintro HA
  iapply (load_x ins c (pA c) (off1 c)) $$ HI; iintro HI
  iapply (load_g ins c (pA c) (off2 c)) $$ HI; iintro HI
  iapply (load_w ins c 0 1 rfl) $$ HI; iintro HI
  iapply (load_w ins c 1 1 rfl) $$ HI; iintro HI
  iapply (load_w ins c 2 1 rfl) $$ HI; iintro HI
  iapply (load_w ins c 3 1 rfl) $$ HI; iintro HI
  iapply (wp_done c)
  iapply Hk
  isplitl [HI]; · iexact HI
  iexact HA

end Parts

end Cert.MoeProof

end
-- ==== Proof.Parts2.lean ====
/-
The kernel's body, second half, one printed part after another: the shares that come in are added, and the
finished blocks of the result handed round.
-/
module

public import proofs.«01_k».proof.Proof.Parts1

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What lands -/

section Land
variable (ins : Ins F) (c : Dev nD)

theorem land0 : val ins 0 (peer 0 c) = part ins (p1 0 c) c 0 := by
  show part ins (pA c) (pA (pA c)) 0 = part ins (pA c) c 0; rw [pA_pA]
theorem land1 : val ins 1 (peer 1 c) = part ins (p1 0 c) (pB c) 0 := by
  show part ins (pA c) (dg (pA c)) 0 = part ins (pA c) (pB c) 0; rw [dg_pA]
theorem land2 : val ins 2 (peer 2 c) = pair ins (p2 0 c) c 0 := by
  show pair ins (pB c) (pB (pB c)) 0 = pair ins (pB c) c 0; rw [pB_pB]
theorem land5 : val ins 5 (peer 5 c) = res ins (dg c) 0 := by
  show res ins (pB (pA c)) 0 = res ins (dg c) 0; rw [pB_pA]
theorem land6 : val ins 6 (peer 6 c) = part ins (p1 1 c) c 1 := by
  show part ins (pB c) (pB (pB c)) 1 = part ins (pB c) c 1; rw [pB_pB]
theorem land7 : val ins 7 (peer 7 c) = part ins (p1 1 c) (pA c) 1 := by
  show part ins (pB c) (dg (pB c)) 1 = part ins (pB c) (pA c) 1; rw [dg_pB]
theorem land8 : val ins 8 (peer 8 c) = pair ins (p2 1 c) c 1 := by
  show pair ins (pA c) (pA (pA c)) 1 = pair ins (pA c) c 1; rw [pA_pA]
theorem land11 : val ins 11 (peer 11 c) = res ins (dg c) 1 := by
  show res ins (pA (pB c)) 1 = res ins (dg c) 1; rw [pA_pB]
theorem place5 : dstM 5 (peer 5 c) = outM (dg c) 0 := by
  show outM (pB (pA c)) 0 = outM (dg c) 0; rw [pB_pA]
theorem place11 : dstM 11 (peer 11 c) = outM (dg c) 1 := by
  show outM (pA (pB c)) 1 = outM (dg c) 1; rw [pA_pB]

end Land

/-- A sum with a block that came in, however its two reshapes are spelt. -/
theorem sum_in {a X : Vec F S512x512 .f32} {y : Vec F S1x1x512x512 .f32} (h : shapeCast S512x512 y shapeCasts_S1x1x512x512_S512x512 = X) :
    shapeCast S512x512 (addf a (shapeCast S512x512 y shapeCasts_S1x1x512x512_S512x512)) shapeCasts_S512x512_S512x512 = addf a X := by
  rw [show shapeCast S512x512 y shapeCasts_S1x1x512x512_S512x512 = X from h]; exact funext fun i => congrArg (addf a X) (Shape.reshapeEquiv_self _ i)
theorem sum_fin {a X : Vec F S512x512 .f32} {y : Vec F S1x512x512 .f32} (h : shapeCast S512x512 y shapeCasts_S1x512x512_S512x512 = X) :
    k0_pay45 a y = addf a X := by
  unfold k0_pay45; rw [h]

section Parts
variable (ins : Ins F) (K : Dev nD × Cl → ℕ) (c : Dev nD)

/-- Part 12: the share of `(pA c, 1)` stored; transfer 0 waited for both ways, transfer 1 read out. -/
theorem part12 {Q : _ → sProp 𝕄} (v3 : BitVec 32) :
    recs ins K ⊢ iprop(owned (F := F) c (accM (pA c) 1) -∗ flying (F := F) 0 c -∗ flying (F := F) 1 c -∗ due (F := F) c [2, 8, 3, 9, 4, 5, 10, 11]
      -∗ ((own c (accM (pA c) 1) (part ins c (pA c) 1) ∗ over (F := F) 0 c ∗ half (F := F) 1 c ∗ due (F := F) c [2, 8, 3, 9, 4, 5, 10, 11]
          ∗ own c (accM (pA c) 0) (part ins c (pA c) 0) ∗ own c (r1M 0 0) (part ins (p1 0 c) c 0) ∗ own c (accM (dg c) 0) (part ins c (dg c) 0)) -∗ Q ⟨⟩)
      -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 (k0_pay36 (tx ins c (pA c))) (k0_pay37 (tx ins c (pA c)) (tg ins c (pA c)) (tw ins c 0 1) (tw ins c 1 1) (tw ins c 2 1))
            (k0_pay38 (tg ins c (pA c))) (tw ins c 3 1)) Q) := by
  rw [k0_part12_eq_skeleton]; unfold k0_part12_skel
  simp only [Prog.lift, Prog.bind_op, Prog.bind_ret, Prog.pure_eq_ret]
  iintro #HR ⟨%X, HA⟩ H0 H1 HO Hk
  iapply (load_blk c (Memref.whole cc0_scratch0) (off22 c)) $$ HA; iintro HA
  iapply (store_blk c (Memref.whole cc0_scratch0) (off22 c)) $$ HA; iintro HA
  iapply (slot_waitS ins K c 0 _ (by decide) (by decide) (A := accM (pA c) 0) (X := part ins c (pA c) 0) rfl rfl) $$ HR H0 HO
  iintro ⟨H0, HB, HO⟩
  iapply (slot_waitV ins K c 0 _ (by decide) (by decide) (A := r1M 0 0) rfl (land0 ins c)) $$ HR H0 HO
  iintro ⟨H0, HV, HO⟩
  iapply (slot_waitS ins K c 1 _ (by decide) (by decide) (A := accM (dg c) 0) (X := part ins c (dg c) 0) rfl rfl) $$ HR H1 HO
  iintro ⟨H1, HC, HO⟩
  iapply (wp_done c)
  iapply Hk
  isplitl [HA]; · iexact HA
  isplitl [H0]; · iexact H0
  isplitl [H1]; · iexact H1
  isplitl [HO]; · iexact HO
  isplitl [HB]; · iexact HB
  isplitl [HV] <;> iassumption

/-- Part 13: transfer 1 landed; the two shares that came in added, for column half 0. -/
theorem part13 {Q : _ → sProp 𝕄} (v2 v3 v4 : BitVec 32) :
    recs ins K ⊢ iprop(half (F := F) 1 c -∗ due (F := F) c [2, 8, 3, 9, 4, 5, 10, 11] -∗ own c (accM c 0) (part ins c c 0)
      -∗ own c (accM (pB c) 0) (part ins c (pB c) 0) -∗ own c (r1M 0 0) (part ins (p1 0 c) c 0)
      -∗ ((over (F := F) 1 c ∗ due (F := F) c [2, 8, 3, 9, 4, 5, 10, 11] ∗ own c (accM c 0) (pair ins c c 0) ∗ own c (accM (pB c) 0) (pair ins c (pB c) 0)
          ∗ own c (r1M 0 0) (part ins (p1 0 c) c 0) ∗ own c (r1M 0 1) (part ins (p1 0 c) (pB c) 0)) -∗ Q ⟨Scalar.muli v4 1#32, 0#32⟩)
      -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 v4) Q) := by
  rw [k0_part13_eq_skeleton]; unfold k0_part13_skel
  simp only [Prog.lift, Prog.bind_op, Prog.bind_ret, Prog.pure_eq_ret]
  iintro #HR H1 HO HA HB HV0 Hk
  iapply (slot_waitV ins K c 1 _ (by decide) (by decide) (A := r1M 0 1) rfl (land1 ins c)) $$ HR H1 HO
  iintro ⟨H1, HV1, HO⟩
  iapply (load_blk c (Memref.whole cc0_scratch0) (off19 c)) $$ HA; iintro HA
  iapply (load_sq c (Memref.whole cc0_scratch1) rfl) $$ HV0; iintro %Y0 %hY0 HV0
  iapply (load_blk c (Memref.whole cc0_scratch0) (off19 c)) $$ HA; iintro HA
  iapply (store_blk c (Memref.whole cc0_scratch0) (off19 c)) $$ HA; iintro HA
  iapply (load_blk c (Memref.whole cc0_scratch0) (off20 c)) $$ HB; iintro HB
  iapply (load_sq c (Memref.whole cc0_scratch1) rfl) $$ HV1; iintro %Y1 %hY1 HV1
  iapply (load_blk c (Memref.whole cc0_scratch0) (off20 c)) $$ HB; iintro HB
  iapply (store_blk c (Memref.whole cc0_scratch0) (off20 c)) $$ HB; iintro HB
  iapply (wp_done c)
  iapply Hk
  isplitl [H1]; · iexact H1
  isplitl [HO]; · iexact HO
  isplitl [HA]
  · iapply (Entails.of_eq (congrArg (fun v => own c (accM c 0) v) (sum_in (a := part ins c c 0) (y := Y0) (hY0 _)))); iexact HA
  isplitl [HB]
  · iapply (Entails.of_eq (congrArg (fun v => own c (accM (pB c) 0) v) (sum_in (a := part ins c (pB c) 0) (y := Y1) (hY1 _)))); iexact HB
  isplitl [HV0] <;> iassumption

/-- Part 14: transfer 2 made; transfer 6 waited for both ways, transfer 7 read out. -/
theorem part14 {Q : _ → sProp 𝕄} (v4 v454 c0 : BitVec 32) :
    recs ins K ⊢ iprop(own c (accM (pB c) 0) (pair ins c (pB c) 0) -∗ owned (F := F) (peer 2 c) (dstM 2 c) -∗ ready (F := F) 2 c
      -∗ flying (F := F) 6 c -∗ flying (F := F) 7 c -∗ due (F := F) c [2, 8, 3, 9, 4, 5, 10, 11]
      -∗ ((flying (F := F) 2 c ∗ over (F := F) 6 c ∗ half (F := F) 7 c ∗ due (F := F) c [8, 3, 9, 4, 5, 10, 11]
          ∗ own c (accM (pB c) 1) (part ins c (pB c) 1) ∗ own c (r1M 1 0) (part ins (p1 1 c) c 1) ∗ own c (accM (dg c) 1) (part ins c (dg c) 1)) -∗ Q ⟨⟩)
      -∗ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v454 c0) Q) := by
  rw [k0_part14_eq_skeleton]; unfold k0_part14_skel
  simp only [Prog.lift, Prog.bind_op, Prog.bind_ret, Prog.pure_eq_ret]
  iintro #HR HS HD Hr H6 H7 HO Hk
  iapply (slot_send ins K c 2 _ (dev7 c) (A := accM (pB c) 0) (X := pair ins c (pB c) 0) (slice_eq _ (off23 c) _ _) rfl rfl rfl (by decide) (by decide)) $$ HR HS HD Hr HO
  iintro ⟨H2, HO⟩
  iapply (slot_waitS ins K c 6 _ (by decide) (by decide) (A := accM (pB c) 1) (X := part ins c (pB c) 1) rfl rfl) $$ HR H6 HO
  iintro ⟨H6, HB, HO⟩
  iapply (slot_waitV ins K c 6 _ (by decide) (by decide) (A := r1M 1 0) rfl (land6 ins c)) $$ HR H6 HO
  iintro ⟨H6, HV, HO⟩
  iapply (slot_waitS ins K c 7 _ (by decide) (by decide) (A := accM (dg c) 1) (X := part ins c (dg c) 1) rfl rfl) $$ HR H7 HO
  iintro ⟨H7, HC, HO⟩
  iapply (wp_done c)
  iapply Hk
  isplitl [H2]; · iexact H2
  isplitl [H6]; · iexact H6
  isplitl [H7]; · iexact H7
  isplitl [HO]; · iexact HO
  isplitl [HB]; · iexact HB
  isplitl [HV] <;> iassumption

/-- Part 15: transfer 7 landed; the two shares that came in added, for column half 1. -/
theorem part15 {Q : _ → sProp 𝕄} (v2 v3 v4 : BitVec 32) :
    recs ins K ⊢ iprop(half (F := F) 7 c -∗ due (F := F) c [8, 3, 9, 4, 5, 10, 11] -∗ own c (accM c 1) (part ins c c 1)
      -∗ own c (accM (pA c) 1) (part ins c (pA c) 1) -∗ own c (r1M 1 0) (part ins (p1 1 c) c 1)
      -∗ ((over (F := F) 7 c ∗ due (F := F) c [8, 3, 9, 4, 5, 10, 11] ∗ own c (accM c 1) (pair ins c c 1) ∗ own c (accM (pA c) 1) (pair ins c (pA c) 1)
          ∗ own c (r1M 1 0) (part ins (p1 1 c) c 1) ∗ own c (r1M 1 1) (part ins (p1 1 c) (pA c) 1)) -∗ Q ⟨⟩)
      -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 v4) Q) := by
  rw [k0_part15_eq_skeleton]; unfold k0_part15_skel
  simp only [Prog.lift, Prog.bind_op, Prog.bind_ret, Prog.pure_eq_ret]
  iintro #HR H1 HO HA HB HV0 Hk
  iapply (slot_waitV ins K c 7 _ (by decide) (by decide) (A := r1M 1 1) rfl (land7 ins c)) $$ HR H1 HO
  iintro ⟨H1, HV1, HO⟩
  iapply (load_blk c (Memref.whole cc0_scratch0) (off21 c)) $$ HA; iintro HA
  iapply (load_sq c (Memref.whole cc0_scratch1) rfl) $$ HV0; iintro %Y0 %hY0 HV0
  iapply (load_blk c (Memref.whole cc0_scratch0) (off21 c)) $$ HA; iintro HA
  iapply (store_blk c (Memref.whole cc0_scratch0) (off21 c)) $$ HA; iintro HA
  iapply (load_blk c (Memref.whole cc0_scratch0) (off22 c)) $$ HB; iintro HB
  iapply (load_sq c (Memref.whole cc0_scratch1) rfl) $$ HV1; iintro %Y1 %hY1 HV1
  iapply (load_blk c (Memref.whole cc0_scratch0) (off22 c)) $$ HB; iintro HB
  iapply (store_blk c (Memref.whole cc0_scratch0) (off22 c)) $$ HB; iintro HB
  iapply (wp_done c)
  iapply Hk
  isplitl [H1]; · iexact H1
  isplitl [HO]; · iexact HO
  isplitl [HA]
  · iapply (Entails.of_eq (congrArg (fun v => own c (accM c 1) v) (sum_in (a := part ins c c 1) (y := Y0) (hY0 _)))); iexact HA
  isplitl [HB]
  · iapply (Entails.of_eq (congrArg (fun v => own c (accM (pA c) 1) v) (sum_in (a := part ins c (pA c) 1) (y := Y1) (hY1 _)))); iexact HB
  isplitl [HV0] <;> iassumption

/-- Part 16: transfer 8 made; transfer 2 waited for both ways; block `(c, 0)` of the result stored. -/
theorem part16 {Q : _ → sProp 𝕄} (v2 v4 : BitVec 32) :
    recs ins K ⊢ iprop(own c (accM (pA c) 1) (pair ins c (pA c) 1) -∗ owned (F := F) (peer 8 c) (dstM 8 c) -∗ ready (F := F) 8 c
      -∗ flying (F := F) 2 c -∗ due (F := F) c [8, 3, 9, 4, 5, 10, 11] -∗ own c (accM c 0) (pair ins c c 0) -∗ owned (F := F) c (outM c 0)
      -∗ ((flying (F := F) 8 c ∗ over (F := F) 2 c ∗ due (F := F) c [3, 9, 4, 5, 10, 11] ∗ own c (accM c 0) (pair ins c c 0)
          ∗ own c (accM (pB c) 0) (pair ins c (pB c) 0) ∗ own c (r2M 0) (pair ins (p2 0 c) c 0) ∗ own c (outM c 0) (res ins c 0)) -∗ Q ⟨⟩)
      -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4) Q) := by
  rw [k0_part16_eq_skeleton]; unfold k0_part16_skel
  simp only [Prog.lift, Prog.bind_op, Prog.bind_ret, Prog.pure_eq_ret]
  iintro #HR HS HD Hr H2 HO HA ⟨%Z, HZ⟩ Hk
  iapply (slot_send ins K c 8 _ (dev8 c) (A := accM (pA c) 1) (X := pair ins c (pA c) 1) (slice_eq _ (off24 c) _ _) rfl rfl rfl (by decide) (by decide)) $$ HR HS HD Hr HO
  iintro ⟨H8, HO⟩
  iapply (slot_waitS ins K c 2 _ (by decide) (by decide) (A := accM (pB c) 0) (X := pair ins c (pB c) 0) rfl rfl) $$ HR H2 HO
  iintro ⟨H2, HB, HO⟩
  iapply (slot_waitV ins K c 2 _ (by decide) (by decide) (A := r2M 0) rfl (land2 ins c)) $$ HR H2 HO
  iintro ⟨H2, HV, HO⟩
  iapply (load_blk c (Memref.whole cc0_scratch0) (off19 c)) $$ HA; iintro HA
  iapply (load_sq c (Memref.whole cc0_scratch2) rfl) $$ HV; iintro %Y %hY HV
  iapply (load_blk c (Memref.whole cc0_stg4_0) (off19 c)) $$ HZ; iintro HZ
  iapply (store_blk c (Memref.whole cc0_stg4_0) (off19 c)) $$ HZ; iintro HZ
  iapply (wp_done c)
  iapply Hk
  isplitl [H8]; · iexact H8
  isplitl [H2]; · iexact H2
  isplitl [HO]; · iexact HO
  isplitl [HA]; · iexact HA
  isplitl [HB]; · iexact HB
  isplitl [HV]; · iexact HV
  iapply (Entails.of_eq (congrArg (fun v => own c (outM c 0) (addf (pair ins c c 0) v)) (hY shapeCasts_S1x512x512_S512x512))); iexact HZ

/-- Part 17: transfer 3 made; transfer 8 waited for both ways; block `(c, 1)` of the result computed. -/
theorem part17 {Q : _ → sProp 𝕄} (v2 v3 v4 : BitVec 32) :
    recs ins K ⊢ iprop(own c (outM c 0) (res ins c 0) -∗ owned (F := F) (peer 3 c) (dstM 3 c) -∗ ready (F := F) 3 c
      -∗ flying (F := F) 8 c -∗ due (F := F) c [3, 9, 4, 5, 10, 11] -∗ own c (accM c 1) (pair ins c c 1) -∗ owned (F := F) c (outM c 1)
      -∗ ((flying (F := F) 3 c ∗ over (F := F) 8 c ∗ due (F := F) c [9, 4, 5, 10, 11] ∗ own c (accM c 1) (pair ins c c 1)
          ∗ own c (accM (pA c) 1) (pair ins c (pA c) 1) ∗ own c (r2M 1) (pair ins (p2 1 c) c 1) ∗ owned (F := F) c (outM c 1)) -∗ Q (res ins c 1))
      -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 v4) Q) := by
  rw [k0_part17_eq_skeleton]; unfold k0_part17_skel
  simp only [Prog.lift, Prog.bind_op, Prog.bind_ret, Prog.pure_eq_ret]
  iintro #HR HS HD Hr H8 HO HA ⟨%Z, HZ⟩ Hk
  iapply (slot_send ins K c 3 _ (dev9 c) (A := outM c 0) (X := res ins c 0) (slice_eq _ (off25 c) _ _) rfl rfl (slice_eq _ (off25 c) _ _) (by decide) (by decide)) $$ HR HS HD Hr HO
  iintro ⟨H3, HO⟩
  iapply (slot_waitS ins K c 8 _ (by decide) (by decide) (A := accM (pA c) 1) (X := pair ins c (pA c) 1) rfl rfl) $$ HR H8 HO
  iintro ⟨H8, HB, HO⟩
  iapply (slot_waitV ins K c 8 _ (by decide) (by decide) (A := r2M 1) rfl (land8 ins c)) $$ HR H8 HO
  iintro ⟨H8, HV, HO⟩
  iapply (load_blk c (Memref.whole cc0_scratch0) (off21 c)) $$ HA; iintro HA
  iapply (load_sq c (Memref.whole cc0_scratch2) rfl) $$ HV; iintro %Y %hY HV
  iapply (load_blk c (Memref.whole cc0_stg4_0) (off21 c)) $$ HZ; iintro HZ
  iapply (wp_done c)
  iapply (Entails.of_eq (congrArg Q (show k0_pay45 (pair ins c c 1) Y = res ins c 1 from sum_fin (hY _))).symm)
  iapply Hk
  isplitl [H3]; · iexact H3
  isplitl [H8]; · iexact H8
  isplitl [HO]; · iexact HO
  isplitl [HA]; · iexact HA
  isplitl [HB]; · iexact HB
  isplitl [HV]; · iexact HV
  iexists Z; iexact HZ

/-- Part 18: block `(c, 1)` of the result stored; transfer 9 made; transfer 3 waited for both ways. -/
theorem part18 {Q : _ → sProp 𝕄} (v2 v3 v4 : BitVec 32) :
    recs ins K ⊢ iprop(owned (F := F) c (outM c 1) -∗ owned (F := F) (peer 9 c) (dstM 9 c) -∗ ready (F := F) 9 c
      -∗ flying (F := F) 3 c -∗ due (F := F) c [9, 4, 5, 10, 11]
      -∗ ((flying (F := F) 9 c ∗ over (F := F) 3 c ∗ due (F := F) c [4, 5, 10, 11] ∗ own c (outM c 0) (res ins c 0)
          ∗ own c (outM (pB c) 0) (res ins (pB c) 0)) -∗ Q ⟨⟩)
      -∗ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 v4 (res ins c 1)) Q) := by
  rw [k0_part18_eq_skeleton]; unfold k0_part18_skel
  simp only [Prog.lift, Prog.bind_op, Prog.bind_ret, Prog.pure_eq_ret]
  iintro #HR ⟨%Z, HZ⟩ HD Hr H3 HO Hk
  iapply (store_blk c (Memref.whole cc0_stg4_0) (off21 c)) $$ HZ; iintro HZ
  iapply (slot_send ins K c 9 _ (dev10 c) (A := outM c 1) (X := res ins c 1) (slice_eq _ (off26 c) _ _) rfl rfl (slice_eq _ (off26 c) _ _) (by decide) (by decide)) $$ HR HZ HD Hr HO
  iintro ⟨H9, HO⟩
  iapply (slot_waitS ins K c 3 _ (by decide) (by decide) (A := outM c 0) (X := res ins c 0) rfl rfl) $$ HR H3 HO
  iintro ⟨H3, HB, HO⟩
  iapply (slot_waitV ins K c 3 _ (by decide) (by decide) (A := outM (pB c) 0) (X := res ins (pB c) 0) rfl rfl) $$ HR H3 HO
  iintro ⟨H3, HV, HO⟩
  iapply (wp_done c)
  iapply Hk
  isplitl [H9]; · iexact H9
  isplitl [H3]; · iexact H3
  isplitl [HO]; · iexact HO
  isplitl [HB] <;> iassumption

/-- Part 19: transfers 4 and 5 made; transfer 9 waited for both ways. -/
theorem part19 {Q : _ → sProp 𝕄} (v2 v3 v4 : BitVec 32) :
    recs ins K ⊢ iprop(own c (outM c 0) (res ins c 0) -∗ own c (outM (pB c) 0) (res ins (pB c) 0)
      -∗ owned (F := F) (peer 4 c) (dstM 4 c) -∗ ready (F := F) 4 c -∗ owned (F := F) (peer 5 c) (dstM 5 c) -∗ ready (F := F) 5 c
      -∗ flying (F := F) 9 c -∗ due (F := F) c [4, 5, 10, 11]
      -∗ ((flying (F := F) 4 c ∗ flying (F := F) 5 c ∗ over (F := F) 9 c ∗ due (F := F) c [10, 11] ∗ own c (outM c 1) (res ins c 1)
          ∗ own c (outM (pA c) 1) (res ins (pA c) 1)) -∗ Q ⟨⟩)
      -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 v4) Q) := by
  rw [k0_part19_eq_skeleton]; unfold k0_part19_skel
  simp only [Prog.lift, Prog.bind_op, Prog.bind_ret, Prog.pure_eq_ret]
  iintro #HR HS4 HS5 HD4 Hr4 HD5 Hr5 H9 HO Hk
  iapply (slot_send ins K c 4 _ (dev11 c) (A := outM c 0) (X := res ins c 0) (slice_eq _ (off25 c) _ _) rfl rfl (slice_eq _ (off25 c) _ _) (by decide) (by decide)) $$ HR HS4 HD4 Hr4 HO
  iintro ⟨H4, HO⟩
  iapply (slot_send ins K c 5 _ (dev12 c) (A := outM (pB c) 0) (X := res ins (pB c) 0) (slice_eq _ (off23 c) _ _) rfl rfl (slice_eq _ (off23 c) _ _) (by decide) (by decide)) $$ HR HS5 HD5 Hr5 HO
  iintro ⟨H5, HO⟩
  iapply (slot_waitS ins K c 9 _ (by decide) (by decide) (A := outM c 1) (X := res ins c 1) rfl rfl) $$ HR H9 HO
  iintro ⟨H9, HB, HO⟩
  iapply (slot_waitV ins K c 9 _ (by decide) (by decide) (A := outM (pA c) 1) (X := res ins (pA c) 1) rfl rfl) $$ HR H9 HO
  iintro ⟨H9, HV, HO⟩
  iapply (wp_done c)
  iapply Hk
  isplitl [H4]; · iexact H4
  isplitl [H5]; · iexact H5
  isplitl [H9]; · iexact H9
  isplitl [HO]; · iexact HO
  isplitl [HB] <;> iassumption

/-- Part 20: transfers 10 and 11 made; transfer 4 waited for both ways, transfer 5 read out. -/
theorem part20 {Q : _ → sProp 𝕄} (v3 v4 : BitVec 32) :
    recs ins K ⊢ iprop(own c (outM c 1) (res ins c 1) -∗ own c (outM (pA c) 1) (res ins (pA c) 1)
      -∗ owned (F := F) (peer 10 c) (dstM 10 c) -∗ ready (F := F) 10 c -∗ owned (F := F) (peer 11 c) (dstM 11 c) -∗ ready (F := F) 11 c
      -∗ flying (F := F) 4 c -∗ flying (F := F) 5 c -∗ due (F := F) c [10, 11]
      -∗ ((flying (F := F) 10 c ∗ flying (F := F) 11 c ∗ over (F := F) 4 c ∗ half (F := F) 5 c ∗ due (F := F) c [] ∗ own c (outM c 0) (res ins c 0)
          ∗ own c (outM (pA c) 0) (res ins (pA c) 0) ∗ own c (outM (pB c) 0) (res ins (pB c) 0)) -∗ Q ⟨Scalar.muli v3 1#32, 0#32⟩)
      -∗ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4) Q) := by
  rw [k0_part20_eq_skeleton]; unfold k0_part20_skel
  simp only [Prog.lift, Prog.bind_op, Prog.bind_ret, Prog.pure_eq_ret]
  iintro #HR HS4 HS5 HD4 Hr4 HD5 Hr5 H4 H5 HO Hk
  iapply (slot_send ins K c 10 _ (dev13 c) (A := outM c 1) (X := res ins c 1) (slice_eq _ (off26 c) _ _) rfl rfl (slice_eq _ (off26 c) _ _) (by decide) (by decide)) $$ HR HS4 HD4 Hr4 HO
  iintro ⟨H10, HO⟩
  iapply (slot_send ins K c 11 _ (dev14 c) (A := outM (pA c) 1) (X := res ins (pA c) 1) (slice_eq _ (off24 c) _ _) rfl rfl (slice_eq _ (off24 c) _ _) (by decide) (by decide)) $$ HR HS5 HD5 Hr5 HO
  iintro ⟨H11, HO⟩
  iapply (slot_waitS ins K c 4 _ (by decide) (by decide) (A := outM c 0) (X := res ins c 0) rfl rfl) $$ HR H4 HO
  iintro ⟨H4, HB, HO⟩
  iapply (slot_waitV ins K c 4 _ (by decide) (by decide) (A := outM (pA c) 0) (X := res ins (pA c) 0) rfl rfl) $$ HR H4 HO
  iintro ⟨H4, HV, HO⟩
  iapply (slot_waitS ins K c 5 _ (by decide) (by decide) (A := outM (pB c) 0) (X := res ins (pB c) 0) rfl rfl) $$ HR H5 HO
  iintro ⟨H5, HC, HO⟩
  iapply (wp_done c)
  iapply Hk
  isplitl [H10]; · iexact H10
  isplitl [H11]; · iexact H11
  isplitl [H4]; · iexact H4
  isplitl [H5]; · iexact H5
  isplitl [HO]; · iexact HO
  isplitl [HB]; · iexact HB
  isplitl [HV] <;> iassumption

end Parts

end Cert.MoeProof

end
-- ==== Proof.Split.lean ====
/-
A device's buffers as their blocks, each owned by itself, and back: eight blocks of the running sums and of the
result, four and two landing blocks.
-/
module

public import proofs.«01_k».proof.Proof.Protocol

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One array from its tiles -/

/-- Monotonicity of an iterated separation, in the order the proof mode reads. -/
theorem mono_all {I : Type} {Φ Ψ : I → sProp 𝕄} (s : Finset I) (h : ∀ i, Φ i ⊢ Ψ i) : bigSep s Φ ⊢ bigSep s Ψ := bigSep_mono fun i _ => h i

section Glue
variable {sh : Shape} {T : Type} [Fintype T] [DecidableEq T] (r : T → Rect sh)
  (hd : ∀ t t', t ≠ t' → Disjoint (r t).set (r t').set) (hcov : (Finset.univ : Finset T).biUnion (fun t => (r t).set) = Finset.univ)
include hcov

omit [DecidableEq T] in
theorem tile_of (i : sh.Idx) : ∃ t, ∃ j, (r t).emb j = i := by
  classical
  obtain ⟨t, -, hx⟩ := Finset.mem_biUnion.mp (hcov.symm ▸ Finset.mem_univ i)
  obtain ⟨j, hj⟩ := (r t).toLoadRect.exists_idx_of_mem hx
  exact ⟨t, j, hj⟩

/-- The array whose tile `t` holds `Xs t`. -/
def glue {α : Type} (Xs : (t : T) → (r t).shape.Idx → α) (i : sh.Idx) : α :=
  Xs (tile_of r hcov i).choose (tile_of r hcov i).choose_spec.choose

include hd in
omit [DecidableEq T] in
theorem glue_emb {α : Type} (Xs : (t : T) → (r t).shape.Idx → α) (t : T) (j : (r t).shape.Idx) : glue r hcov Xs ((r t).emb j) = Xs t j := by
  unfold glue
  have h := (tile_of r hcov ((r t).emb j)).choose_spec.choose_spec
  revert h
  generalize (tile_of r hcov ((r t).emb j)).choose_spec.choose = j'
  revert j'
  generalize (tile_of r hcov ((r t).emb j)).choose = t'
  intro j' h
  have ht : t' = t := by
    by_contra hn
    exact Finset.disjoint_left.mp (hd t' t hn) (show (r t).emb j ∈ (r t').set from h ▸ (r t').idx_mem j') ((r t).idx_mem j)
  subst ht
  rw [(r t').emb.injective h]

variable {e : EltTy} (m : Memref sig .tc .vmem sh e) (hr : ∀ t a, (r t).stride a = 1) (c : Dev nD)

include hd in
/-- A buffer owned, whatever it holds, is each of its tiles owned, -/
theorem tiles_split (f : sh.Idx → Elt F e) :
    (owns (c : Thread nD τ) m fullShare f : sProp 𝕄)
      ⊢ bigSep Finset.univ fun t => iprop(∃ X, (owns (c : Thread nD τ) (m.slice (r t) (hr t)) fullShare X : sProp 𝕄)) :=
  (owns_rects (c : Thread nD τ) m fullShare r hr hd hcov f).trans
    (mono_all _ fun t => by iintro H; iexists _; iexact H)

include hd in
/-- and tiles owned at known contents are the buffer owned at the glued ones. -/
theorem tiles_join (Xs : (t : T) → (r t).shape.Idx → Elt F e) :
    (bigSep Finset.univ fun t => (owns (c : Thread nD τ) (m.slice (r t) (hr t)) fullShare (Xs t) : sProp 𝕄))
      ⊢ owns (c : Thread nD τ) m fullShare (glue r hcov Xs) := by
  haveI : ∀ e, Nonempty (Elt F e) := fun e => inferInstance
  refine BI.Entails.trans ?_ (owns_of_rects (c : Thread nD τ) m fullShare r hr hd hcov (glue r hcov Xs))
  refine mono_all _ fun t => Entails.of_eq ?_
  rw [show (fun j => glue r hcov Xs ((r t).emb j)) = Xs t from funext fun j => glue_emb r hd hcov Xs t j]

include hd in
theorem tiles_join_any :
    (bigSep Finset.univ fun t => iprop(∃ X, (owns (c : Thread nD τ) (m.slice (r t) (hr t)) fullShare X : sProp 𝕄)))
      ⊢ iprop(∃ X, (owns (c : Thread nD τ) m fullShare X : sProp 𝕄)) := by
  haveI : ∀ e, Nonempty (Elt F e) := fun e => inferInstance
  iintro H
  ihave H := (BI.bigSep_exists_pi Finset.univ fun (t : T) (X : (r t).shape.Idx → Elt F e) =>
    (owns (c : Thread nD τ) (m.slice (r t) (hr t)) fullShare X : sProp 𝕄)) $$ H
  icases H with ⟨%Xs, H⟩
  iexists glue r hcov Xs
  iapply (tiles_join r hd hcov m hr c Xs); iexact H
end Glue

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

theorem whole_intro (c : Dev nD) (b : Ref sig .tc) (X : b.ty.Contents (Elt F)) :
    pt c b X ⊢ (owns (c : Thread nD τ) (Memref.whole b) fullShare X : sProp 𝕄) := by
  rw [owns_whole_eq]; iintro H; iexists X; isplitr; · (ipureintro; rfl)
  iexact H
theorem whole_elim (c : Dev nD) (b : Ref sig .tc) (X : b.ty.Contents (Elt F)) :
    (owns (c : Thread nD τ) (Memref.whole b) fullShare X : sProp 𝕄) ⊢ pt c b X := by
  rw [owns_whole_eq]; iintro ⟨%f, %hf, H⟩; subst hf; iexact H

/-- Squeezing a block changes nothing about who owns it. -/
theorem owned_sq (c : Dev nD) {sh sh' : Shape} (m : Memref sig .tc .vmem sh .f32) (hs : sh.Squeezes sh') :
    iprop(∃ X, (owns (c : Thread nD τ) m fullShare X : sProp 𝕄)) ⊢ iprop(∃ X, (owns (c : Thread nD τ) (m.squeeze sh' hs) fullShare X : sProp 𝕄)) := by
  unfold owns
  iintro ⟨%X, %f, %hf, H⟩
  iexists _, f
  isplitr; · (ipureintro; rfl)
  iapply (Entails.of_eq (congrArg (fun S => ((m.view.loc (c : Thread nD τ)) ↦[S]{fullShare} f : sProp 𝕄)) (View.set_reshape m.view hs.numel_eq).symm)); iexact H
theorem owned_unsq (c : Dev nD) {sh sh' : Shape} (m : Memref sig .tc .vmem sh .f32) (hs : sh.Squeezes sh') :
    iprop(∃ X, (owns (c : Thread nD τ) (m.squeeze sh' hs) fullShare X : sProp 𝕄)) ⊢ iprop(∃ X, (owns (c : Thread nD τ) m fullShare X : sProp 𝕄)) := by
  unfold owns
  iintro ⟨%X, %f, %hf, H⟩
  iexists _, f
  isplitr; · (ipureintro; rfl)
  iapply (Entails.of_eq (congrArg (fun S => ((m.view.loc (c : Thread nD τ)) ↦[S]{fullShare} f : sProp 𝕄)) (View.set_reshape m.view hs.numel_eq))); iexact H

/-! ## The three tilings -/

/-- Eight blocks, by row block and column half, -/
abbrev rB (t : Dev nD × Fin 2) : Rect S2048x1024 := brect t.1 t.2
theorem rB_disj (t t' : Dev nD × Fin 2) (h : t ≠ t') : Disjoint (rB t).set (rB t').set := by
  by_cases h1 : t.1 = t'.1
  · refine Rect.unit_disjoint (s := S2048x1024) 1 ?_
    have h2 : t.2 ≠ t'.2 := fun h2 => h (Prod.ext h1 h2)
    have := t.2.isLt; have := t'.2.isLt
    have : t.2.val ≠ t'.2.val := fun hv => h2 (Fin.ext hv)
    show 512 * t.2.val + 512 ≤ 512 * t'.2.val ∨ 512 * t'.2.val + 512 ≤ 512 * t.2.val
    omega
  · refine Rect.unit_disjoint (s := S2048x1024) 0 ?_
    have : t.1.val ≠ t'.1.val := fun hv => h1 (Fin.ext hv)
    show 512 * t.1.val + 512 ≤ 512 * t'.1.val ∨ 512 * t'.1.val + 512 ≤ 512 * t.1.val
    omega
theorem rB_cov : (Finset.univ : Finset (Dev nD × Fin 2)).biUnion (fun t => (rB t).set) = Finset.univ := by
  refine Finset.eq_univ_iff_forall.mpr fun i => ?_
  have h0 : (i 0).val < 2048 := (i 0).isLt
  have h1 : (i 1).val < 1024 := (i 1).isLt
  refine Finset.mem_biUnion.mpr ⟨(⟨(i 0).val / 512, show _ < 4 by omega⟩, ⟨(i 1).val / 512, by omega⟩), Finset.mem_univ _, Rect.mem_set_unit.mpr fun a => ?_⟩
  match a with
  | 0 => show 512 * ((i 0).val / 512) ≤ (i 0).val ∧ (i 0).val < 512 * ((i 0).val / 512) + 512; omega
  | 1 => show 512 * ((i 1).val / 512) ≤ (i 1).val ∧ (i 1).val < 512 * ((i 1).val / 512) + 512; omega

/-- four landing blocks of the first exchange, -/
abbrev r1B (t : Fin 2 × Fin 2) : Rect S2x2x512x512 := Rect.unit (s := S2x2x512x512) (r1off t.1 t.2) S1x1x512x512.size (r1off_inb t.1 t.2)
theorem r1B_disj (t t' : Fin 2 × Fin 2) (h : t ≠ t') : Disjoint (r1B t).set (r1B t').set := by
  by_cases h1 : t.1 = t'.1
  · refine Rect.unit_disjoint (s := S2x2x512x512) 1 ?_
    have : t.2.val ≠ t'.2.val := fun hv => h (Prod.ext h1 (Fin.ext hv))
    show t.2.val + 1 ≤ t'.2.val ∨ t'.2.val + 1 ≤ t.2.val
    omega
  · refine Rect.unit_disjoint (s := S2x2x512x512) 0 ?_
    have : t.1.val ≠ t'.1.val := fun hv => h1 (Fin.ext hv)
    show t.1.val + 1 ≤ t'.1.val ∨ t'.1.val + 1 ≤ t.1.val
    omega
theorem r1B_cov : (Finset.univ : Finset (Fin 2 × Fin 2)).biUnion (fun t => (r1B t).set) = Finset.univ := by
  refine Finset.eq_univ_iff_forall.mpr fun i => ?_
  refine Finset.mem_biUnion.mpr ⟨(i 0, i 1), Finset.mem_univ _, Rect.mem_set_unit.mpr fun a => ?_⟩
  match a with
  | 0 => exact ⟨Nat.le_refl _, Nat.lt_succ_self _⟩
  | 1 => exact ⟨Nat.le_refl _, Nat.lt_succ_self _⟩
  | 2 => exact ⟨Nat.zero_le _, lt_of_lt_of_eq (i 2).isLt (Nat.zero_add _).symm⟩
  | 3 => exact ⟨Nat.zero_le _, lt_of_lt_of_eq (i 3).isLt (Nat.zero_add _).symm⟩

/-- two of the second. -/
abbrev r2B (t : Fin 2) : Rect S2x512x512 := Rect.unit (s := S2x512x512) (r2off t) S1x512x512.size (r2off_inb t)
theorem r2B_disj (t t' : Fin 2) (h : t ≠ t') : Disjoint (r2B t).set (r2B t').set := by
  refine Rect.unit_disjoint (s := S2x512x512) 0 ?_
  have : t.val ≠ t'.val := fun hv => h (Fin.ext hv)
  show t.val + 1 ≤ t'.val ∨ t'.val + 1 ≤ t.val
  omega
theorem r2B_cov : (Finset.univ : Finset (Fin 2)).biUnion (fun t => (r2B t).set) = Finset.univ := by
  refine Finset.eq_univ_iff_forall.mpr fun i => ?_
  refine Finset.mem_biUnion.mpr ⟨i 0, Finset.mem_univ _, Rect.mem_set_unit.mpr fun a => ?_⟩
  match a with
  | 0 => exact ⟨Nat.le_refl _, Nat.lt_succ_self _⟩
  | 1 => exact ⟨Nat.zero_le _, lt_of_lt_of_eq (i 1).isLt (Nat.zero_add _).symm⟩
  | 2 => exact ⟨Nat.zero_le _, lt_of_lt_of_eq (i 2).isLt (Nat.zero_add _).symm⟩

/-- The result: block `(q, h)` holds `res q h`. -/
def outAt (ins : Ins F) : (cc0_stg4_0 : Ref sig .tc).ty.Contents (Elt F) :=
  glue rB rB_cov fun t => res ins t.1 t.2

/-- Eight things, one per block, in the order a device meets them. -/
theorem sep8 (c : Dev nD) (Φ : Dev nD × Fin 2 → sProp 𝕄) :
    bigSep Finset.univ Φ = iprop(Φ (c, 0) ∗ Φ (pA c, 0) ∗ Φ (pB c, 0) ∗ Φ (dg c, 0) ∗ Φ (c, 1) ∗ Φ (pA c, 1) ∗ Φ (pB c, 1) ∗ Φ (dg c, 1)) :=
  bigSep_univ_eq_bigSepL [(c, 0), (pA c, 0), (pB c, 0), (dg c, 0), (c, 1), (pA c, 1), (pB c, 1), (dg c, 1)] (by revert c; decide) (by revert c; decide) Φ

theorem sep4 (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
theorem sep2 (Φ : Fin 2 → sProp 𝕄) : bigSep Finset.univ Φ = iprop(Φ 0 ∗ Φ 1) :=
  bigSep_univ_eq_bigSepL [0, 1] (by decide) (by decide) Φ

section Whole
variable (ins : Ins F) (c : Dev nD)

/-- The eight blocks of a buffer, owned. -/
def eight (M : Dev nD → Fin 2 → Memref sig .tc .vmem S512x512 .f32) : sProp 𝕄 :=
  iprop(owned (F := F) c (M c 0) ∗ owned (F := F) c (M (pA c) 0) ∗ owned (F := F) c (M (pB c) 0) ∗ owned (F := F) c (M (dg c) 0)
    ∗ owned (F := F) c (M c 1) ∗ owned (F := F) c (M (pA c) 1) ∗ owned (F := F) c (M (pB c) 1) ∗ owned (F := F) c (M (dg c) 1))

theorem acc_split : iprop(∃ f, pt (F := F) c cc0_scratch0 f) ⊢ eight c accM := by
  iintro ⟨%f, H⟩
  ihave H := (whole_intro c cc0_scratch0 f) $$ H
  ihave H := (tiles_split rB rB_disj rB_cov (Memref.whole cc0_scratch0) (fun _ _ => rfl) c f) $$ H
  ihave H := (Entails.of_eq (sep8 c _)) $$ H
  unfold eight; iexact H
theorem out_split : iprop(∃ f, pt (F := F) c cc0_stg4_0 f) ⊢ eight c outM := by
  iintro ⟨%f, H⟩
  ihave H := (whole_intro c cc0_stg4_0 f) $$ H
  ihave H := (tiles_split rB rB_disj rB_cov (Memref.whole cc0_stg4_0) (fun _ _ => rfl) c f) $$ H
  ihave H := (Entails.of_eq (sep8 c _)) $$ H
  unfold eight; iexact H
theorem acc_join : eight (F := F) c accM ⊢ iprop(∃ f, pt (F := F) c cc0_scratch0 f) := by
  unfold eight
  iintro H
  ihave H : (bigSep Finset.univ fun t => iprop(∃ X, (owns (c : Thread nD τ) ((Memref.whole cc0_scratch0).slice (rB t) (fun _ => rfl)) fullShare X : sProp 𝕄))) $$ [H]
  · rw [sep8 c]; iexact H
  ihave H := (tiles_join_any rB rB_disj rB_cov (Memref.whole cc0_scratch0) (fun _ _ => rfl) c) $$ H
  icases H with ⟨%X, H⟩
  iexists X
  iapply (whole_elim c cc0_scratch0 X); iexact H
theorem out_join :
    iprop(own c (outM c 0) (res ins c 0) ∗ own c (outM (pA c) 0) (res ins (pA c) 0) ∗ own c (outM (pB c) 0) (res ins (pB c) 0) ∗ own c (outM (dg c) 0) (res ins (dg c) 0)
        ∗ own c (outM c 1) (res ins c 1) ∗ own c (outM (pA c) 1) (res ins (pA c) 1) ∗ own c (outM (pB c) 1) (res ins (pB c) 1) ∗ own c (outM (dg c) 1) (res ins (dg c) 1))
      ⊢ pt c cc0_stg4_0 (outAt ins) := by
  iintro H
  ihave H : (bigSep Finset.univ fun t => (owns (c : Thread nD τ) ((Memref.whole cc0_stg4_0).slice (rB t) (fun _ => rfl)) fullShare (res ins t.1 t.2) : sProp 𝕄)) $$ [H]
  · rw [sep8 c]; iexact H
  ihave H := (tiles_join rB rB_disj rB_cov (Memref.whole cc0_stg4_0) (fun _ _ => rfl) c fun t => res ins t.1 t.2) $$ H
  iapply (whole_elim c cc0_stg4_0 (outAt ins)); iexact H

/-- The landing blocks of the first exchange, owned, -/
def four : sProp 𝕄 := iprop(owned (F := F) c (r1M 0 0) ∗ owned (F := F) c (r1M 0 1) ∗ owned (F := F) c (r1M 1 0) ∗ owned (F := F) c (r1M 1 1))
/-- and of the second. -/
def two : sProp 𝕄 := iprop(owned (F := F) c (r2M 0) ∗ owned (F := F) c (r2M 1))

theorem r1_split : iprop(∃ f, pt (F := F) c cc0_scratch1 f) ⊢ four c := by
  iintro ⟨%f, H⟩
  ihave H := (whole_intro c cc0_scratch1 f) $$ H
  ihave H := (tiles_split r1B r1B_disj r1B_cov (Memref.whole cc0_scratch1) (fun _ _ => rfl) c f) $$ H
  ihave H := (mono_all Finset.univ fun t : Fin 2 × Fin 2 => owned_sq (F := F) c ((Memref.whole cc0_scratch1).slice (r1B t) (fun _ => rfl)) squeezes_S1x1x512x512_S512x512) $$ H
  ihave H := (Entails.of_eq (sep4 _)) $$ H
  unfold four; iexact H
theorem r2_split : iprop(∃ f, pt (F := F) c cc0_scratch2 f) ⊢ two c := by
  iintro ⟨%f, H⟩
  ihave H := (whole_intro c cc0_scratch2 f) $$ H
  ihave H := (tiles_split r2B r2B_disj r2B_cov (Memref.whole cc0_scratch2) (fun _ _ => rfl) c f) $$ H
  ihave H := (mono_all Finset.univ fun t : Fin 2 => owned_sq (F := F) c ((Memref.whole cc0_scratch2).slice (r2B t) (fun _ => rfl)) squeezes_S1x512x512_S512x512) $$ H
  ihave H := (Entails.of_eq (sep2 _)) $$ H
  unfold two; iexact H
theorem r1_join : four (F := F) c ⊢ iprop(∃ f, pt (F := F) c cc0_scratch1 f) := by
  unfold four
  iintro H
  ihave H : (bigSep Finset.univ fun t : Fin 2 × Fin 2 => owned (F := F) c (r1M t.1 t.2)) $$ [H]
  · rw [sep4]; iexact H
  ihave H := (mono_all Finset.univ fun t : Fin 2 × Fin 2 => owned_unsq (F := F) c ((Memref.whole cc0_scratch1).slice (r1B t) (fun _ => rfl)) squeezes_S1x1x512x512_S512x512) $$ H
  ihave H := (tiles_join_any r1B r1B_disj r1B_cov (Memref.whole cc0_scratch1) (fun _ _ => rfl) c) $$ H
  icases H with ⟨%X, H⟩
  iexists X
  iapply (whole_elim c cc0_scratch1 X); iexact H
theorem r2_join : two (F := F) c ⊢ iprop(∃ f, pt (F := F) c cc0_scratch2 f) := by
  unfold two
  iintro H
  ihave H : (bigSep Finset.univ fun t : Fin 2 => owned (F := F) c (r2M t)) $$ [H]
  · rw [sep2]; iexact H
  ihave H := (mono_all Finset.univ fun t : Fin 2 => owned_unsq (F := F) c ((Memref.whole cc0_scratch2).slice (r2B t) (fun _ => rfl)) squeezes_S1x512x512_S512x512) $$ H
  ihave H := (tiles_join_any r2B r2B_disj r2B_cov (Memref.whole cc0_scratch2) (fun _ _ => rfl) c) $$ H
  icases H with ⟨%X, H⟩
  iexists X
  iapply (whole_elim c cc0_scratch2 X); iexact H

end Whole

end Cert.MoeProof

end
-- ==== Proof.Body.lean ====
/-
The whole body of one device: from its inputs, its buffers and what it knows at entry to the finished result, its
buffers back, every counter at zero and nothing owed.
-/
module

public import proofs.«01_k».proof.Proof.Parts2
public import proofs.«01_k».proof.Proof.Split

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The landing places handed round at entry -/

section Places
variable (c : Dev nD)

theorem bar_false : barPay (F := F) c false = iprop(owned (F := F) (peer 0 c) (dstM 0 c) ∗ owned (F := F) (peer 1 c) (dstM 1 c)
    ∗ owned (F := F) (peer 4 c) (dstM 4 c) ∗ owned (F := F) (peer 5 c) (dstM 5 c) ∗ owned (F := F) (peer 8 c) (dstM 8 c) ∗ owned (F := F) (peer 9 c) (dstM 9 c)) := by
  unfold barPay; rw [bigSep_eq_bigSepL_of_eq [0, 1, 4, 5, 8, 9] (by decide) (by decide)]; rfl
theorem bar_true : barPay (F := F) c true = iprop(owned (F := F) (peer 2 c) (dstM 2 c) ∗ owned (F := F) (peer 3 c) (dstM 3 c)
    ∗ owned (F := F) (peer 6 c) (dstM 6 c) ∗ owned (F := F) (peer 7 c) (dstM 7 c) ∗ owned (F := F) (peer 10 c) (dstM 10 c) ∗ owned (F := F) (peer 11 c) (dstM 11 c)) := by
  unfold barPay; rw [bigSep_eq_bigSepL_of_eq [2, 3, 6, 7, 10, 11] (by decide) (by decide)]; rfl

/-- The places on a device that its partner `pA` sends to, -/
theorem give_A : iprop(owned (F := F) c (r1M 0 0) ∗ owned (F := F) c (r1M 0 1) ∗ owned (F := F) c (outM (pA c) 0) ∗ owned (F := F) c (outM (dg c) 0)
    ∗ owned (F := F) c (r2M 1) ∗ owned (F := F) c (outM (pA c) 1)) ⊢ barPay (F := F) (pA c) false := by
  rw [bar_false]
  show _ ⊢ iprop(owned (F := F) (pA (pA c)) (r1M 0 0) ∗ owned (F := F) (pA (pA c)) (r1M 0 1) ∗ owned (F := F) (pA (pA c)) (outM (pA c) 0)
    ∗ owned (F := F) (pA (pA c)) (outM (pB (pA c)) 0) ∗ owned (F := F) (pA (pA c)) (r2M 1) ∗ owned (F := F) (pA (pA c)) (outM (pA c) 1))
  rw [pA_pA, pB_pA]
/-- and those its partner `pB` sends to. -/
theorem give_B : iprop(owned (F := F) c (r2M 0) ∗ owned (F := F) c (outM (pB c) 0) ∗ owned (F := F) c (r1M 1 0) ∗ owned (F := F) c (r1M 1 1)
    ∗ owned (F := F) c (outM (pB c) 1) ∗ owned (F := F) c (outM (dg c) 1)) ⊢ barPay (F := F) (pB c) true := by
  rw [bar_true]
  show _ ⊢ iprop(owned (F := F) (pB (pB c)) (r2M 0) ∗ owned (F := F) (pB (pB c)) (outM (pB c) 0) ∗ owned (F := F) (pB (pB c)) (r1M 1 0)
    ∗ owned (F := F) (pB (pB c)) (r1M 1 1) ∗ owned (F := F) (pB (pB c)) (outM (pB c) 1) ∗ owned (F := F) (pB (pB c)) (outM (pA (pB c)) 1))
  rw [pB_pB, pA_pB]

end Places

/-- Something for each of the twelve transfers. -/
abbrev twelve (Φ : Fin 12 → sProp 𝕄) : sProp 𝕄 :=
  iprop(Φ 0 ∗ Φ 1 ∗ Φ 2 ∗ Φ 3 ∗ Φ 4 ∗ Φ 5 ∗ Φ 6 ∗ Φ 7 ∗ Φ 8 ∗ Φ 9 ∗ Φ 10 ∗ Φ 11)

theorem wp_seq (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by unfold WP; rw [wp_bind]

section Body
variable (ins : Ins F) (K : Dev nD × Cl → ℕ) (c : Dev nD)

/-- What a device is left with: its inputs, the result, its scratch buffers, every counter at zero, nothing owed. -/
def done : sProp 𝕄 :=
  iprop((pt c cc0_stg0_0 (ins.x c) ∗ pt c cc0_stg1_0 (ins.rw c) ∗ pt c cc0_stg2_0 (ins.idx c) ∗ pt c cc0_stg3_0 (ins.ew c) ∗ pt c cc0_stg4_0 (outAt ins))
    ∗ ((∃ f, pt (F := F) c cc0_scratch0 f) ∗ (∃ f, pt (F := F) c cc0_scratch1 f) ∗ (∃ f, pt (F := F) c cc0_scratch2 f) ∗ (∃ f, pt (F := F) c cc0_scratch3 f))
    ∗ semVal (barCell c) 0 ∗ twelve (fun s => over (F := F) s c) ∗ due (F := F) c [])

set_option maxHeartbeats 1000000 in
/-- Parts 1 to 20 and the waits after them: the whole body of a device. -/
theorem body {Q : PUnit → sProp 𝕄} :
    recs ins K ⊢ iprop(greet (F := F) c -∗ twelve (fun s => ready (F := F) s c)
      -∗ (∃ f, pt (F := F) c cc0_scratch0 f) -∗ (∃ f, pt (F := F) c cc0_scratch1 f) -∗ (∃ f, pt (F := F) c cc0_scratch2 f) -∗ (∃ f, pt (F := F) c cc0_scratch3 f)
      -∗ pt c cc0_stg0_0 (ins.x c) -∗ pt c cc0_stg1_0 (ins.rw c) -∗ pt c cc0_stg2_0 (ins.idx c) -∗ pt c cc0_stg3_0 (ins.ew c)
      -∗ (∃ f, pt (F := F) c cc0_stg4_0 f)
      -∗ (done ins c -∗ Q ⟨⟩)
      -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [cc0_body_eq_skeleton]; unfold cc0_body_skel
  rw [k0_part21_eq_skeleton]; unfold k0_part21_skel
  simp only [Prog.lift, Prog.bind_op, Prog.bind_ret, Prog.pure_eq_ret]
  iintro #HR Hgr ⟨Hr0, Hr1, Hr2, Hr3, Hr4, Hr5, Hr6, Hr7, Hr8, Hr9, Hr10, Hr11⟩ Hacc Hr1b Hr2b Hg Hx Hrw Hidx Hew Hout Hk
  ihave Hacc := (acc_split c) $$ Hacc
  ihave Hout := (out_split c) $$ Hout
  ihave Hr1b := (r1_split c) $$ Hr1b
  ihave Hr2b := (r2_split c) $$ Hr2b
  unfold eight four two
  icases Hacc with ⟨Ac0, Aa0, Ab0, Ad0, Ac1, Aa1, Ab1, Ad1⟩
  icases Hout with ⟨Oc0, Oa0, Ob0, Od0, Oc1, Oa1, Ob1, Od1⟩
  icases Hr1b with ⟨V00, V01, V10, V11⟩
  icases Hr2b with ⟨V0, V1⟩
  ihave PA := (give_A (F := F) c) $$ [V00 V01 Oa0 Od0 V1 Oa1]
  · isplitl [V00]; · iexact V00
    isplitl [V01]; · iexact V01
    isplitl [Oa0]; · iexact Oa0
    isplitl [Od0]; · iexact Od0
    isplitl [V1] <;> iassumption
  ihave PB := (give_B (F := F) c) $$ [V0 Ob0 V10 V11 Ob1 Od1]
  · isplitl [V0]; · iexact V0
    isplitl [Ob0]; · iexact Ob0
    isplitl [V10]; · iexact V10
    isplitl [V11]; · iexact V11
    isplitl [Ob1] <;> iassumption
  iapply (wp_seq c)
  iapply (wp_seq c)
  iapply (part1 ins K c) $$ HR Hgr PA PB Hx Hrw Hidx
  iintro ⟨PA, PB, Hz, HO, Hx, Hrw, Hidx⟩
  ihave PA := (Entails.of_eq (bar_false (F := F) c)) $$ PA
  ihave PB := (Entails.of_eq (bar_true (F := F) c)) $$ PB
  icases PA with ⟨D0, D1, D4, D5, D8, D9⟩
  icases PB with ⟨D2, D3, D6, D7, D10, D11⟩
  dsimp only
  iapply (wp_seq c)
  iapply (part2 ins c) $$ Hx Hew Hg
  iintro HI
  dsimp only
  iapply (wp_seq c)
  iapply (part3 ins c) $$ HI Aa0
  iintro ⟨HI, Aa0⟩
  dsimp only
  iapply (wp_seq c)
  iapply (part4 ins K c) $$ HR HI Ad0 Aa0 D0 Hr0 HO
  iintro ⟨HI, Ad0, Hr0, HO⟩
  iapply (wp_seq c)
  iapply (part5 ins K c) $$ HR HI Ad0 D1 Hr1 HO
  iintro ⟨HI, Hr1, HO⟩
  dsimp only
  iapply (wp_seq c)
  iapply (part6 ins c) $$ HI Ab1
  iintro ⟨HI, Ab1⟩
  dsimp only
  iapply (wp_seq c)
  iapply (part7 ins K c) $$ HR HI Ad1 Ab1 D6 Hr6 HO
  iintro ⟨HI, Ad1, Hr6, HO⟩
  iapply (wp_seq c)
  iapply (part8 ins K c) $$ HR HI Ad1 D7 Hr7 HO
  iintro ⟨HI, Hr7, HO⟩
  iapply (wp_seq c)
  iapply (part9 ins c) $$ HI Ac0
  iintro ⟨HI, Ac0⟩
  dsimp only
  iapply (wp_seq c)
  iapply (part10 ins c) $$ HI Ab0
  iintro ⟨HI, Ab0⟩
  dsimp only
  iapply (wp_seq c)
  iapply (part11 ins c) $$ HI Ac1
  iintro ⟨HI, Ac1⟩
  dsimp only
  iapply (wp_seq c)
  iapply (part12 ins K c) $$ HR Aa1 Hr0 Hr1 HO
  iintro ⟨Aa1, Hr0, Hr1, HO, Aa0, V00, Ad0⟩
  iapply (wp_seq c)
  iapply (part13 ins K c) $$ HR Hr1 HO Ac0 Ab0 V00
  iintro ⟨Hr1, HO, Ac0, Ab0, V00, V01⟩
  dsimp only
  iapply (wp_seq c)
  iapply (part14 ins K c) $$ HR Ab0 D2 Hr2 Hr6 Hr7 HO
  iintro ⟨Hr2, Hr6, Hr7, HO, Ab1, V10, Ad1⟩
  iapply (wp_seq c)
  iapply (part15 ins K c) $$ HR Hr7 HO Ac1 Aa1 V10
  iintro ⟨Hr7, HO, Ac1, Aa1, V10, V11⟩
  iapply (wp_seq c)
  iapply (part16 ins K c) $$ HR Aa1 D8 Hr8 Hr2 HO Ac0 Oc0
  iintro ⟨Hr8, Hr2, HO, Ac0, Ab0, V0, Oc0⟩
  iapply (wp_seq c)
  iapply (part17 ins K c) $$ HR Oc0 D3 Hr3 Hr8 HO Ac1 Oc1
  iintro ⟨Hr3, Hr8, HO, Ac1, Aa1, V1, Oc1⟩
  iapply (wp_seq c)
  iapply (part18 ins K c) $$ HR Oc1 D9 Hr9 Hr3 HO
  iintro ⟨Hr9, Hr3, HO, Oc0, Ob0⟩
  iapply (wp_seq c)
  iapply (part19 ins K c) $$ HR Oc0 Ob0 D4 Hr4 D5 Hr5 Hr9 HO
  iintro ⟨Hr4, Hr5, Hr9, HO, Oc1, Oa1⟩
  iapply (wp_seq c)
  iapply (part20 ins K c) $$ HR Oc1 Oa1 D10 Hr10 D11 Hr11 Hr4 Hr5 HO
  iintro ⟨Hr10, Hr11, Hr4, Hr5, HO, Oc0, Oa0, Ob0⟩
  iapply (slot_waitV ins K c 5 _ (by decide) (by decide) (place5 c) (land5 ins c)) $$ HR Hr5 HO
  iintro ⟨Hr5, Od0, HO⟩
  iapply (slot_waitS ins K c 10 _ (by decide) (by decide) (A := outM c 1) (X := res ins c 1) rfl rfl) $$ HR Hr10 HO
  iintro ⟨Hr10, Oc1, HO⟩
  iapply (slot_waitV ins K c 10 _ (by decide) (by decide) (A := outM (pB c) 1) (X := res ins (pB c) 1) rfl rfl) $$ HR Hr10 HO
  iintro ⟨Hr10, Ob1, HO⟩
  iapply (wp_done c)
  dsimp only
  iapply (slot_waitS ins K c 11 _ (by decide) (by decide) (A := outM (pA c) 1) (X := res ins (pA c) 1) rfl rfl) $$ HR Hr11 HO
  iintro ⟨Hr11, Oa1, HO⟩
  iapply (slot_waitV ins K c 11 _ (by decide) (by decide) (place11 c) (land11 ins c)) $$ HR Hr11 HO
  iintro ⟨Hr11, Od1, HO⟩
  iapply (wp_done c)
  iapply Hk
  unfold done inp
  icases HI with ⟨Hx, Hew, Hg⟩
  isplitl [Hx Hrw Hidx Hew Oc0 Oa0 Ob0 Od0 Oc1 Oa1 Ob1 Od1]
  · isplitl [Hx]; · iexact Hx
    isplitl [Hrw]; · iexact Hrw
    isplitl [Hidx]; · iexact Hidx
    isplitl [Hew]; · iexact Hew
    iapply (out_join ins c)
    isplitl [Oc0]; · iexact Oc0
    isplitl [Oa0]; · iexact Oa0
    isplitl [Ob0]; · iexact Ob0
    isplitl [Od0]; · iexact Od0
    isplitl [Oc1]; · iexact Oc1
    isplitl [Oa1]; · iexact Oa1
    isplitl [Ob1] <;> iassumption
  isplitl [Hg Ac0 Aa0 Ab0 Ad0 Ac1 Aa1 Ab1 Ad1 V00 V01 V10 V11 V0 V1]
  · isplitl [Ac0 Aa0 Ab0 Ad0 Ac1 Aa1 Ab1 Ad1]
    · iapply (acc_join (F := F) c)
      unfold eight
      isplitl [Ac0]; · iexists _; iexact Ac0
      isplitl [Aa0]; · iexists _; iexact Aa0
      isplitl [Ab0]; · iexists _; iexact Ab0
      isplitl [Ad0]; · iexists _; iexact Ad0
      isplitl [Ac1]; · iexists _; iexact Ac1
      isplitl [Aa1]; · iexists _; iexact Aa1
      isplitl [Ab1]; · iexists _; iexact Ab1
      iexists _; iexact Ad1
    isplitl [V00 V01 V10 V11]
    · iapply (r1_join (F := F) c)
      unfold four
      isplitl [V00]; · iexists _; iexact V00
      isplitl [V01]; · iexists _; iexact V01
      isplitl [V10]; · iexists _; iexact V10
      iexists _; iexact V11
    isplitl [V0 V1]
    · iapply (r2_join (F := F) c)
      unfold two
      isplitl [V0]; · iexists _; iexact V0
      iexists _; iexact V1
    iexists _; iexact Hg
  isplitl [Hz]; · iexact Hz
  isplitr [HO]
  · unfold twelve
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10] <;> iassumption
  iexact HO

end Body

end Cert.MoeProof

end
-- ==== Proof.Tokens.lean ====
/-
The launch's ghost state: the cells of all devices, the tokens dealt to the devices that pay with them, and the
credits, regrouped into what each device starts from.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ghost
variable (ins : Ins F)

/-! ## The cells and the tokens of the launch -/

theorem kcell_injective : Function.Injective (kcell : Dev nD × Cl → GSem nD τ sig) := by
  rintro ⟨c, k⟩ ⟨c', k'⟩ h
  have h1 : c = c' := congrArg (fun g : GSem nD τ sig => g.1.1) h
  have h2 : csem k = csem k' := congrArg Prod.snd h
  have h3 : k = k' := (show ∀ k k' : Cl, csem k = csem k' → k = k' by decide) k k' h2
  rw [h1, h3]
/-- All cells of all devices. -/
def allCells : Finset (GSem nD τ sig) := Finset.univ.map ⟨kcell, kcell_injective⟩

/-- Which token of a device's own cells: one of the barrier's two, a read-out cell's, a landing cell's. -/
abbrev Tk : Type := Bool ⊕ (Fin 12 ⊕ Fin 12)
def tkSem : Tk → SemLoc sig × Bool
  | .inl b => (.reg barS, b)
  | .inr (.inl s) => (.dma (sendS s), false)
  | .inr (.inr s) => (.dma (recvS s), false)
def tokOf (cj : Dev nD × Tk) : GSem nD τ sig × ℕ × Bool := (((cj.1 : Thread nD τ), (tkSem cj.2).1), 0, (tkSem cj.2).2)
theorem tokOf_injective : Function.Injective (tokOf : Dev nD × Tk → GSem nD τ sig × ℕ × Bool) := by
  rintro ⟨c, j⟩ ⟨c', j'⟩ h
  have h1 : c = c' := congrArg (fun x : GSem nD τ sig × ℕ × Bool => x.1.1.1) h
  have h2 : tkSem j = tkSem j' := Prod.ext (congrArg (fun x : GSem nD τ sig × ℕ × Bool => x.1.2) h) (congrArg (fun x : GSem nD τ sig × ℕ × Bool => x.2.2) h)
  have h3 : j = j' := (show ∀ k k' : Tk, tkSem k = tkSem k' → k = k' by decide) j j' h2
  rw [h1, h3]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The tokens of device `c`'s own cells, as minted. -/
def toks (c : Dev nD) : sProp 𝕄 :=
  iprop((bigSep Finset.univ fun b : Bool => dutyTok ER (barCell c) 0 b) ∗ (bigSep Finset.univ fun s : Fin 12 => dutyTok ER (sendCell c s) 0 false)
    ∗ bigSep Finset.univ fun s : Fin 12 => dutyTok ER (recvCell c s) 0 false)
/-- The tokens device `c` pays with. -/
def payToks (c : Dev nD) : sProp 𝕄 :=
  iprop((bigSep Finset.univ fun b : Bool => dutyTok ER (barCell (nb b c)) 0 b) ∗ (bigSep Finset.univ fun s : Fin 12 => dutyTok ER (sendCell c s) 0 false)
    ∗ bigSep Finset.univ fun s : Fin 12 => dutyTok ER (recvCell (peer s c) s) 0 false)

/-- What the launch deals device `c`. -/
def G (c : Dev nD) : sProp 𝕄 :=
  iprop((bigSep Finset.univ fun k : Cl => roundState ER (sched ins) (kcell (c, k)) 0)
    ∗ (bigSep Finset.univ fun k : Cl => iprop(atPos ER (kcell (c, k)) 0 ∅ 0 ∗ reached ER (kcell (c, k)) 0)) ∗ toks c)

/-- What every device knows of the cells. -/
def records (K : Dev nD × Cl → ℕ) : sProp 𝕄 :=
  iprop((bigSep Finset.univ fun ck : Dev nD × Cl => cellInv ER (sched ins) (K ck) (kcell ck))
    ∗ bigSep Finset.univ fun ck : Dev nD × Cl => reached ER (kcell ck) 0)
instance records_persistent (K : Dev nD × Cl → ℕ) : BI.Persistent (records ins K) := by unfold records; infer_instance
/-- What is a device's own: its positions and the tokens it pays with. -/
def linear (c : Dev nD) : sProp 𝕄 :=
  iprop((bigSep Finset.univ fun k : Cl => atPos ER (kcell (c, k)) 0 ∅ 0) ∗ payToks c)
/-- What the global step makes of it. -/
def G' (c : Dev nD) : sProp 𝕄 := iprop(∃ K, records ins K ∗ linear c)

theorem fund_all : BI.own (ER (initOf allCells allToks)) ⊢ (|==> bigSep Finset.univ (G ins) : sProp 𝕄) := by
  have hX (Φ : GSem nD τ sig → sProp 𝕄) : bigSep allCells Φ = bigSep Finset.univ fun c : Dev nD => bigSep Finset.univ fun k : Cl => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched ins) allCells allToks) $$ HX with ⟨Hst, Hr, Hat, Htok⟩
  imodintro
  ihave Hst' := (Entails.of_eq (hX fun g => roundState ER (sched ins) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The kernel's own semaphores: the twelve that count transfers read out, the twelve that count them landed. -/
abbrev osem : Fin 12 ⊕ Fin 12 → SemLoc sig
  | .inl s => .dma (sendS s)
  | .inr s => .dma (recvS s)
theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop((bigSep Finset.univ fun s : Fin 12 => semVal (sendCell c s) 0) ∗ bigSep Finset.univ fun s : Fin 12 => semVal (recvCell c s) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem twelve_eq (Φ : Fin 12 → sProp 𝕄) : bigSep Finset.univ Φ = twelve Φ :=
  bigSep_univ_eq_bigSepL [0, 1, 2, 3, 4, 5, 6, 7, 8, 9, 10, 11] (by decide) (by decide) Φ
theorem bool_eq (Φ : Bool → sProp 𝕄) : bigSep Finset.univ Φ = iprop(Φ false ∗ Φ true) :=
  bigSep_univ_eq_bigSepL [false, true] (by decide) (by decide) Φ

/-- A device's cells are its barrier's, its read-out cells and its landing cells. -/
theorem cells_eq (Φ : Cl → sProp 𝕄) : bigSep Finset.univ Φ
    = iprop(Φ bIx ∗ (bigSep Finset.univ fun s => Φ (sIx s)) ∗ bigSep Finset.univ fun s => Φ (vIx s)) := by
  rw [bigSep_univ_sum, bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (kcell (c, k)) 0 : sProp 𝕄) := by
  rw [ownSems0_eq, unscopedSems0_eq, cells_eq]
  iintro ⟨⟨HS, HV⟩, HB⟩
  isplitl [HB]; · iexact HB
  isplitl [HS]; · iexact HS
  iexact HV

/-! ## The global step -/

theorem core_alloc (c : Dev nD) :
    iprop(Pipeline.ownSems0 (Ix := Unit) (Name := ℕ) (U := UU) (Lvl := ℕ) (Val := Elt F) (τ := τ) osem c ∗ unscopedSems0 c ∗ G ins c)
      ⊢ |={Set.univ}=> iprop((bigSep Finset.univ fun k => iprop(∃ κ : ℕ, cellInv ER (sched ins) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cl => semVal (kcell (c, k)) 0) ∗ bigSep Finset.univ fun k : Cl => roundState ER (sched ins) (kcell (c, k)) 0)
      ⊢ (|={Set.univ}=> bigSep Finset.univ fun k => iprop(∃ κ : ℕ, cellInv ER (sched ins) κ (kcell (c, k))) : sProp 𝕄) from by
        rw [← bigSep_sep']
        exact (bigSep_mono fun k _ => (Rounds.body_intro ER (sched ins) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and its partner, exchanged. -/
def nbE (b : Bool) : Dev nD ≃ Dev nD := ⟨nb b, nb b, nb_nb b, nb_nb b⟩

/-- The tokens as minted, regrouped by the device that pays with them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  have e1 : (bigSep Finset.univ fun c : Dev nD => bigSep Finset.univ fun b : Bool => (dutyTok ER (barCell c) 0 b : sProp 𝕄))
      = bigSep Finset.univ fun c : Dev nD => bigSep Finset.univ fun b : Bool => (dutyTok ER (barCell (nb b c)) 0 b : sProp 𝕄) := by
    rw [bigSep_univ_comm, bigSep_univ_comm (fun (c : Dev nD) (b : Bool) => (dutyTok ER (barCell (nb b c)) 0 b : sProp 𝕄))]
    exact bigSep_congr fun b _ => bigSep_univ_equiv (nbE b) (fun c : Dev nD => (dutyTok ER (barCell c) 0 b : sProp 𝕄))
  have e2 : (bigSep Finset.univ fun c : Dev nD => bigSep Finset.univ fun s : Fin 12 => (dutyTok ER (recvCell c s) 0 false : sProp 𝕄))
      = bigSep Finset.univ fun c : Dev nD => bigSep Finset.univ fun s : Fin 12 => (dutyTok ER (recvCell (peer s c) s) 0 false : sProp 𝕄) := by
    rw [bigSep_univ_comm, bigSep_univ_comm (fun (c : Dev nD) (s : Fin 12) => (dutyTok ER (recvCell (peer s c) s) 0 false : sProp 𝕄))]
    exact bigSep_congr fun s _ => bigSep_univ_equiv (nbE (side s)) (fun c : Dev nD => (dutyTok ER (recvCell c s) 0 false : sProp 𝕄))
  rw [e1, e2]

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched ins) κ (kcell (c, k))))
          ∗ (bigSep Finset.univ fun k => iprop(atPos ER (kcell (c, k)) 0 ∅ 0 ∗ reached ER (kcell (c, k)) 0)) ∗ toks c) : sProp 𝕄)
      ⊢ bigSep Finset.univ (G' ins) := by
  rw [bigSep_sep', bigSep_sep', ← bigSep_univ_prod (fun ck : Dev nD × Cl => iprop(∃ κ : ℕ, cellInv ER (sched ins) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok⟩
  ihave HK := (BI.bigSep_exists_pi Finset.univ (fun (ck : Dev nD × Cl) (κ : ℕ) => (cellInv ER (sched ins) κ (kcell ck) : sProp 𝕄))) $$ HI
  icases HK with ⟨%K, #HI⟩
  ihave Htk := (toks_around (F := F)) $$ Htok
  iapply (bigSep_beside (R := records ins K) (Φ := fun c => linear c) fun c _ => show iprop(records ins K ∗ linear c) ⊢ G' ins c from by
    unfold G'; iintro H; iexists K; iexact H)
  isplitr
  · unfold records; isplitl; · iexact HI
    iexact HR
  · unfold linear; rw [bigSep_sep']
    isplitl [Hat]; · iexact Hat
    iexact Htk

/-- Own and barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G ins c) : sProp 𝕄)
    ⊢ |={Set.univ}=> bigSep Finset.univ (G' ins) :=
  ((bigSep_mono fun c _ => core_alloc ins c).trans (bigSep_fupd _ _)).trans (BI.fupd_mono (regroup ins))

/-! ## The launch credit -/

/-- The credit of the transfers `l` that come in. -/
def credsOf (c : Dev nD) : List (Fin 12) → sProp 𝕄
  | [] => iprop(emp)
  | s :: l => iprop(credsOf c l ∗ cred (tallyAt (recvCell c s) () N))

theorem creds_rem (c : Dev nD) (l : List (Fin 12)) : (Pipeline.launchCred (fun d => Orem d l) c : sProp 𝕄) ⊢ credsOf c l := by
  induction l with
  | nil => exact Entails.of_eq (Pipeline.launchCred_zero c)
  | cons s l ih =>
    show (Pipeline.launchCred (fun d => Orem d l + tallyAt (recvCell (peer s d) s) () N) c : sProp 𝕄) ⊢ iprop(credsOf c l ∗ cred (tallyAt (recvCell c s) () N))
    rw [Pipeline.launchCred_add]
    exact BI.sep_mono ih (Pipeline.launchCred_tallyAt _ (peer s) (peer s) (peer_peer s) (peer_peer s) () N c)

theorem creds (c : Dev nD) : (Pipeline.launchCred O₀ c : sProp 𝕄)
    ⊢ iprop(cred (tallyAt (barCell c) () 2) ∗ bigSep Finset.univ fun s : Fin 12 => cred (tallyAt (recvCell c s) () N)) := by
  have e : (Pipeline.launchCred O₀ c : sProp 𝕄) = iprop((Pipeline.launchCred (fun d => Orem d order) c ∗ Pipeline.launchCred (fun d => tallyAt (barCell (pB d)) () 1) c)
      ∗ Pipeline.launchCred (fun d => tallyAt (barCell (pA d)) () 1) c) := by
    rw [← Pipeline.launchCred_add, ← Pipeline.launchCred_add]; rfl
  rw [e]
  iintro ⟨⟨Hr, HB⟩, HA⟩
  ihave HA := (Pipeline.launchCred_tallyAt (.reg barS) pA pA pA_pA pA_pA () 1 c) $$ HA
  ihave HB := (Pipeline.launchCred_tallyAt (.reg barS) pB pB pB_pB pB_pB () 1 c) $$ HB
  ihave Hr := (creds_rem (F := F) c order) $$ Hr
  isplitl [HA HB]
  · rw [show (tallyAt (barCell c) () 2 : CellTallies nD τ sig Unit) = tallyAt (barCell c) () 1 + tallyAt (barCell c) () 1 from (tallyAt_add _ _ 1 1).symm]
    iapply (cred_add _ _).2
    isplitl [HA] <;> iassumption
  rw [twelve_eq]
  ihave Hr := (show credsOf (F := F) c order ⊢ iprop((((((((((((emp ∗ cred (tallyAt (recvCell c 11) () N)) ∗ cred (tallyAt (recvCell c 10) () N)) ∗ cred (tallyAt (recvCell c 5) () N)) ∗ cred (tallyAt (recvCell c 4) () N)) ∗ cred (tallyAt (recvCell c 9) () N)) ∗ cred (tallyAt (recvCell c 3) () N)) ∗ cred (tallyAt (recvCell c 8) () N)) ∗ cred (tallyAt (recvCell c 2) () N)) ∗ cred (tallyAt (recvCell c 7) () N)) ∗ cred (tallyAt (recvCell c 6) () N)) ∗ cred (tallyAt (recvCell c 1) () N)) ∗ cred (tallyAt (recvCell c 0) () N)) from Entails.of_eq rfl) $$ Hr
  icases Hr with ⟨⟨⟨⟨⟨⟨⟨⟨⟨⟨⟨⟨-, H11⟩, H10⟩, H5⟩, H4⟩, H9⟩, H3⟩, H8⟩, H2⟩, H7⟩, H6⟩, H1⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10] <;> iassumption

/-! ## What a device starts from -/

/-- What device `c`'s body starts from: what all know, what is its own, and its credits. -/
def start (c : Dev nD) : sProp 𝕄 :=
  iprop((∃ K, recs ins K ∗ linear c) ∗ cred (tallyAt (barCell c) () 2) ∗ bigSep Finset.univ fun s : Fin 12 => cred (tallyAt (recvCell c s) () N))

/-- The start opened: what all know, the entry handshake's part, and the twelve transfers ready. -/
theorem start_elim (c : Dev nD) : iprop(start ins c ∗ ∃ W, owes (c : Thread nD τ) (O₀ c) W)
    ⊢ iprop(∃ K, recs ins K ∗ greet (F := F) c ∗ twelve (fun s => ready (F := F) s c)) := by
  unfold start linear payToks greet
  rw [cells_eq, ← twelve_eq, bool_eq]
  unfold ready
  simp only [bigSep_sep']
  iintro ⟨⟨⟨%K, #HR, ⟨HaB, HaS, HaV⟩, ⟨HtA, HtB⟩, HtS, HtV⟩, HcB, HcV⟩, HO⟩
  iexists K
  isplitr; · iexact HR
  isplitl [HO HtA HtB HaB HcB]
  · isplitl [HO]; · iexact HO
    isplitl [HtA]; · iexact HtA
    isplitl [HtB]; · iexact HtB
    isplitl [HaB]; · iexact HaB
    iexact HcB
  isplitl [HtS]; · iexact HtS
  isplitl [HtV]; · iexact HtV
  isplitl [HaS]; · iexact HaS
  isplitl [HaV]; · iexact HaV
  iexact HcV

end Ghost

end Cert.MoeProof

end
-- ==== Proof.Run.lean ====
/-
The program's run, for any float values: it terminates, the inputs are left as they were, the result's array of
every device holds what `finalA` says, and every semaphore counter is back at zero.
-/
module

public import proofs.«01_k».proof.Proof.Tokens
public import proofs.«01_k».proof.Proof.Gen.KernelIdeal.Points
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-- What the devices' staged inputs hold. -/
def insOf : Ins F where
  x c := (win0_0.blk (0 : Fin 1)).view.read (Elt F) ((s₀ m ρ).mem ((c : Thread nD τ).loc main_arg0))
  rw c := (win0_1.blk (0 : Fin 1)).view.read (Elt F) ((s₀ m ρ).mem ((c : Thread nD τ).loc main_arg1))
  idx c := (win0_2.blk (0 : Fin 1)).view.read (Elt F) ((s₀ m ρ).mem ((c : Thread nD τ).loc main_arg2))
  ew c := (win0_3.blk (0 : Fin 1)).view.read (Elt F) ((s₀ m ρ).mem ((c : Thread nD τ).loc main_arg3))

/-! ## The pipeline's proof data -/

/-- The scratch buffers, whatever they hold. -/
def scratch (c : Dev nD) : sProp 𝕄 :=
  iprop((∃ f, pt (F := F) c cc0_scratch0 f) ∗ (∃ f, pt (F := F) c cc0_scratch1 f) ∗ (∃ f, pt (F := F) c cc0_scratch2 f) ∗ (∃ f, pt (F := F) c cc0_scratch3 f))
def Φ₀ (c : Dev nD) : sProp 𝕄 := iprop(start (insOf m ρ) c ∗ scratch (F := F) c)
/-- After the body: the scratch buffers and every counter at zero. -/
def Φ₁ (c : Dev nD) : sProp 𝕄 := iprop(scratch (F := F) c ∗ semVal (barCell c) 0 ∗ bigSep Finset.univ fun s => over (F := F) s c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m ρ).x c
    | ⟨1, _⟩ => (insOf m ρ).rw c
    | ⟨2, _⟩ => (insOf m ρ).idx c
    | ⟨3, _⟩ => (insOf m ρ).ew c
    | ⟨4, _⟩ => outAt (insOf m ρ)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

abbrev tt : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ pt c b f)

def bodyPre (c : Dev nD) : sProp 𝕄 :=
  iprop(Φ₀ m ρ c ∗ (dats m ρ 0 c).owesAt () tt.castSucc
    ∗ (∃ d, stg c cc0_stg0_0 ((dats m ρ 0 c).before (0 : Fin 5) tt d))
    ∗ (∃ d, stg c cc0_stg1_0 ((dats m ρ 0 c).before (1 : Fin 5) tt d))
    ∗ (∃ d, stg c cc0_stg2_0 ((dats m ρ 0 c).before (2 : Fin 5) tt d))
    ∗ (∃ d, stg c cc0_stg3_0 ((dats m ρ 0 c).before (3 : Fin 5) tt d))
    ∗ (∃ d, stg c cc0_stg4_0 ((dats m ρ 0 c).before (4 : Fin 5) tt d)))
def bodyPost (c : Dev nD) : sProp 𝕄 :=
  iprop(Φ₁ (F := F) c ∗ (dats m ρ 0 c).owesAt () tt.succ
    ∗ stg c cc0_stg0_0 ((insOf m ρ).x c) ∗ stg c cc0_stg1_0 ((insOf m ρ).rw c) ∗ stg c cc0_stg2_0 ((insOf m ρ).idx c)
    ∗ stg c cc0_stg3_0 ((insOf m ρ).ew c) ∗ stg c cc0_stg4_0 (outAt (insOf m ρ)))

theorem before0 (c : Dev nD) (d) : (dats m ρ 0 c).before (0 : Fin 5) tt d = (insOf m ρ).x c := by unfold Dat.before; rw [if_pos (fetch0_0 _)]; rfl
theorem before1 (c : Dev nD) (d) : (dats m ρ 0 c).before (1 : Fin 5) tt d = (insOf m ρ).rw c := by unfold Dat.before; rw [if_pos (fetch0_1 _)]; rfl
theorem before2 (c : Dev nD) (d) : (dats m ρ 0 c).before (2 : Fin 5) tt d = (insOf m ρ).idx c := by unfold Dat.before; rw [if_pos (fetch0_2 _)]; rfl
theorem before3 (c : Dev nD) (d) : (dats m ρ 0 c).before (3 : Fin 5) tt d = (insOf m ρ).ew c := by unfold Dat.before; rw [if_pos (fetch0_3 _)]; rfl

/-- The body between what the pipeline hands it and what it hands back. -/
theorem sound_body (c : Dev nD) :
    bodyPre m ρ c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => bodyPost m ρ c) := by
  unfold bodyPre Φ₀ scratch Dat.owesAt Pipeline.owesWithin
  rw [show (dats m ρ 0 c).owed tt.castSucc = O₀ c from rfl]
  iintro ⟨⟨Hst, Ha, Hr1, Hr2, Hg⟩, ⟨%W, %hW, HO⟩, ⟨%d0, %g0, %h0, Hx⟩, ⟨%d1, %g1, %h1, Hrw⟩, ⟨%d2, %g2, %h2, Hidx⟩, ⟨%d3, %g3, %h3, Hew⟩, ⟨%d4, %g4, %h4, Hout⟩⟩
  rw [before0] at h0; rw [before1] at h1; rw [before2] at h2; rw [before3] at h3
  subst h0 h1 h2 h3
  ihave HS := (start_elim (insOf m ρ) c) $$ [Hst HO]
  · isplitl [Hst]; · iexact Hst
    iexists W; iexact HO
  icases HS with ⟨%K, #HR, Hgr, Hre⟩
  iapply (body (insOf m ρ) K c) $$ HR Hgr Hre Ha Hr1 Hr2 Hg Hx Hrw Hidx Hew [Hout]
  · iexists g4; iexact Hout
  unfold done bodyPost Φ₁ scratch due Dat.owesAt Pipeline.owesWithin
  rw [show (dats m ρ 0 c).owed tt.succ = 0 from rfl, twelve_eq]
  iintro ⟨⟨Hx, Hrw, Hidx, Hew, Hout⟩, Hs, Hz, Hov, %W', HO⟩
  isplitl [Hs Hz Hov]
  · isplitl [Hs]; · iexact Hs
    isplitl [Hz]; · iexact Hz
    iexact Hov
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hidx]
  · iexists _; isplitr; · (ipureintro; rfl)
    iexact Hidx
  isplitl [Hew]
  · iexists _; isplitr; · (ipureintro; rfl)
    iexact Hew
  iexists _; isplitr; · (ipureintro; rfl)
  iexact Hout

set_option maxRecDepth 40000 in
/-- The library's obligation on the body of device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m ρ) c)
      ⊢ |={Set.univ}=> iprop(start (insOf m ρ) c ∗ emp) := by
  unfold start G' records recs
  iintro ⟨-, #Hlev, Hcr, -, ⟨%K, ⟨#HI, #HRe⟩, Hl⟩⟩
  ihave Hc := (creds (F := F) c) $$ Hcr
  imodintro
  isplitl
  · isplitl [Hl]
    · iexists K
      isplitr
      · isplitr; · iexact HI
        isplitr; · iexact HRe
        iexact Hlev
      iexact Hl
    iexact Hc
  · iempintro

theorem phi0_intro (c : Dev nD) :
    iprop(start (insOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scratch over
  rw [bigSep_sep']
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution of the
    program terminates, with each device's arrays at the contents computed here and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (insOf m ρ)) (G' := G' (insOf m ρ)) (u₀ := u₀)
    (hu₀ := by
      unfold u₀
      iintro Hu
      ihave H := (ownU_pair _ _) $$ Hu
      icases H with ⟨HP, HX⟩
      imod (fund_all (insOf m ρ)) $$ HX with HG
      imodintro
      isplitl [HP] <;> iassumption)
    (hglob := glob (insOf m ρ))
    (hA := fun _ _ => rfl) (hpf := fun _ k => k.elim0)
    (X := start (insOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are left as they were. -/
theorem finalA_in (c : Dev nD) (w : Fin 5) (hw : w ≠ 4) : finalA m ρ c w = (s₀ m ρ).mem ((cfg0.win w).arr.view.loc (c : Thread nD τ)) := by
  have h : (cfg0.win w).isOut = false := by revert w; decide
  exact (dats (F := F) m ρ 0 c).arrAt_in w h _

end Cert.MoeProof

end
-- ==== Proof.Frames.lean ====
/-
What the runs leave: the arguments unchanged and every counter at zero, of the program at either kind of float and of
the reference; and what the program's arrays hold, named by the arguments' contents.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.MoeProof

open Cert.KernelIdeal Cert.KernelIdeal.Gen

open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The program leaves its arguments as they were and every counter at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1 c (0 : Fin 5)).trans (finalA_in m ρ c 0 (by decide)), (h.1 c (1 : Fin 5)).trans (finalA_in m ρ c 1 (by decide)),
     (h.1 c (2 : Fin 5)).trans (finalA_in m ρ c 2 (by decide)), (h.1 c (3 : Fin 5)).trans (finalA_in m ρ c 3 (by decide))⟩, h.2⟩)
    (run_main m ρ)

/-- The program as first printed and as printed for exact reading have one body table, -/
theorem bodies_eq : Cert.Kernel.defs₀ (F := F) = defs₀ (F := F) :=
  congrArg Defs.onTc (funext fun ℓ => funext fun x => by
    obtain ⟨_ | n, h⟩ := ℓ
    · rfl
    · exact absurd h (Nat.not_lt.2 (Nat.le_add_left _ _)))

/-- and so one table of everything. -/
theorem tables_eq : Cert.Kernel.defs (F := F) = defs (F := F) := congrArg (Pipeline.defs _) bodies_eq

theorem frame_kernel : Cert.quiescent_Kernel := fun m ρ _ => by
  have h := run_frame (F := Bits) m ρ
  rw [← tables_eq] at h
  exact h
theorem frame_ideal : Cert.quiescent_KernelIdeal := fun m ρ _ => run_frame (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- A one-block window's block, read, is its array. -/
theorem read_x (c : Dev nD) (f) : (win0_0.blk (0 : Fin 1)).view.read (Elt F) (f : Buf (Elt F) ((c : Thread nD τ).loc main_arg0)) = f :=
  Memref.read_access_unit_zero (Elt F) main_arg0 (funext fun a => by fin_cases a <;> decide) (fun a => by fin_cases a <;> decide) f
theorem read_rw (c : Dev nD) (f) : (win0_1.blk (0 : Fin 1)).view.read (Elt F) (f : Buf (Elt F) ((c : Thread nD τ).loc main_arg1)) = f :=
  Memref.read_access_unit_zero (Elt F) main_arg1 (funext fun a => by fin_cases a <;> decide) (fun a => by fin_cases a <;> decide) f
theorem read_idx (c : Dev nD) (f) : (win0_2.blk (0 : Fin 1)).view.read (Elt F) (f : Buf (Elt F) ((c : Thread nD τ).loc main_arg2)) = f :=
  Memref.read_access_unit_zero (Elt F) main_arg2 (funext fun a => by fin_cases a <;> decide) (fun a => by fin_cases a <;> decide) f
theorem read_ew (c : Dev nD) (f) : (win0_3.blk (0 : Fin 1)).view.read (Elt F) (f : Buf (Elt F) ((c : Thread nD τ).loc main_arg3)) = f :=
  Memref.read_access_unit_zero (Elt F) main_arg3 (funext fun a => by fin_cases a <;> decide) (fun a => by fin_cases a <;> decide) f
theorem read_out (c : Dev nD) (f) : (win0_4.blk (0 : Fin 1)).view.read (Elt F) (f : Buf (Elt F) ((c : Thread nD τ).loc main_v1)) = f :=
  Memref.read_access_unit_zero (Elt F) main_v1 (funext fun a => by fin_cases a <;> decide) (fun a => by fin_cases a <;> decide) f

/-- The staged inputs are the arguments' contents. -/
def argsOf : Ins F where
  x c := m ((c : Thread nD τ).loc main_arg0)
  rw c := m ((c : Thread nD τ).loc main_arg1)
  idx c := m ((c : Thread nD τ).loc main_arg2)
  ew c := m ((c : Thread nD τ).loc main_arg3)

theorem insOf_eq : insOf m ρ = argsOf m := by
  unfold insOf argsOf
  congr 1
  · exact funext fun c => read_x c _
  · exact funext fun c => read_rw c _
  · exact funext fun c => read_idx c _
  · exact funext fun c => read_ew c _

/-- The result's array ends holding the assembled blocks. -/
theorem finalA_out (c : Dev nD) : finalA m ρ c (4 : Fin 5) = outAt (argsOf m) := by
  rw [← insOf_eq m ρ]
  refine (read_out c _).symm.trans ?_
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The program's run: every device's result holds the assembled blocks of the devices' arguments, which are unchanged. -/
theorem run_result : θ_run defs (onTc (τ := τ) (main (F := F))) ⟨m, fun _ => 0, ρ⟩ (fun r =>
    ∀ c : Dev nD, r.2.mem ((c : Thread nD τ).loc main_v1) = outAt (argsOf m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨(h.1 c (4 : Fin 5)).trans (finalA_out m ρ c),
     (h.1 c (0 : Fin 5)).trans (finalA_in m ρ c 0 (by decide)), (h.1 c (1 : Fin 5)).trans (finalA_in m ρ c 1 (by decide)),
     (h.1 c (2 : Fin 5)).trans (finalA_in m ρ c 2 (by decide)), (h.1 c (3 : Fin 5)).trans (finalA_in m ρ c 3 (by decide))⟩)
    (run_main m ρ)

end Cert.MoeProof

end
-- ==== Proof.Gate.lean ====
/-
The gates at the extended reals: a device's softmax of the router's scores, the two masks, and the
normalised gates of its own four experts, each read at one entry.
-/
module

public import proofs.«01_k».proof.Proof.Protocol
public import Idealize.ShloMosaic.Lib.Pointwise

@[expose] public section

noncomputable section

namespace Cert.MoeProof

open Cert.KernelIdeal Cert.KernelIdeal.Gen
open Idealize.ShloMosaic

/-- Row `i`'s score for expert `e`: the row times the router's column. -/
def score (x : S2048x512.Idx → EReal) (rw : S512x16.Idx → EReal) (i : Fin 2048) (e : Fin 16) : EReal :=
  ∑ k : Fin 512, x (ix2 i k) * rw (ix2 k e)

/-- Row `i`'s largest score. -/
def topScore (x : S2048x512.Idx → EReal) (rw : S512x16.Idx → EReal) (i : Fin 2048) : EReal :=
  Finset.univ.fold max (Ideal.ofBits .f32 0xFF800000#32) fun e => score x rw i e

/-- The exponential of row `i`'s score for `e`, taken from the largest one. -/
def expo (x : S2048x512.Idx → EReal) (rw : S512x16.Idx → EReal) (i : Fin 2048) (e : Fin 16) : EReal :=
  Ideal.exp (score x rw i e - topScore x rw i)

/-- Row `i`'s probability of expert `e`. -/
def prob (x : S2048x512.Idx → EReal) (rw : S512x16.Idx → EReal) (i : Fin 2048) (e : Fin 16) : EReal :=
  Ideal.div (expo x rw i e) (∑ e' : Fin 16, expo x rw i e')

/-- The row `i` times expert `e`'s matrix, at column `b`. -/
def prod (x : S2048x512.Idx → EReal) (W : (⟨3, ![16, 512, 1024]⟩ : Shape).Idx → EReal) (i : Fin 2048) (e : Fin 16) (b : Fin 1024) : EReal :=
  ∑ d : Fin 512, x (ix2 i d) * W (ix3 e d b)

set_option maxRecDepth 16384 in
/-- The kernel's softmax is `prob`. -/
theorem pay1_apply (x : Vec Ideal S2048x512 .f32) (rw : Vec Ideal S512x16 .f32) (i : Fin 2048) (e : Fin 16) :
    k0_pay1 x rw (ix2 i e) = prob x rw i e := by
  unfold prob expo topScore score
  pointwise [k0_pay1]

set_option maxRecDepth 16384 in
/-- A mask's entry compares the expert's number with the one chosen. -/
theorem pay2_apply (v : Vec Ideal S2048x1 .i32) (i : Fin 2048) (e : Fin 16) :
    k0_pay2 (F := Ideal) v (ix2 i e) = IntOp.cmpi .eq (BitVec.ofNat 32 e.val) (v (ix2 i 0)) := by
  pointwise [k0_pay2]

set_option maxRecDepth 16384 in
theorem pay3_apply (v : Vec Ideal S2048x1 .i32) (i : Fin 2048) (e : Fin 16) :
    k0_pay3 (F := Ideal) v (ix2 i e) = IntOp.cmpi .eq (BitVec.ofNat 32 e.val) (v (ix2 i 0)) := by
  pointwise [k0_pay3]

/-- A one-bit word as a number. -/
def bit (b : BitVec 1) : EReal := FloatOps.sitofp (F := Ideal) FTy.f32 (BitVec.setWidth 32 b)

theorem bit_ite (P : Prop) [Decidable P] : bit (if P then 1#1 else 0#1) = if P then 1 else 0 := by
  unfold bit
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

theorem ori_ite (P Q : Prop) [Decidable P] [Decidable Q] :
    IntOp.ori (if P then 1#1 else 0#1) (if Q then 1#1 else 0#1) = if P ∨ Q then 1#1 else 0#1 := by
  by_cases hp : P <;> by_cases hq : Q <;> simp only [hp, hq, or_true, or_false, if_true, if_false] <;> rfl

/-- Whether an expert is one of the two chosen, as a bit. -/
theorem chosen_bit (e e0 e1 : Fin 16) :
    IntOp.ori (IntOp.cmpi .eq (BitVec.ofNat 32 e.val) (BitVec.ofNat 32 e0.val))
        (IntOp.cmpi .eq (BitVec.ofNat 32 e.val) (BitVec.ofNat 32 e1.val))
      = if e = e0 ∨ e = e1 then 1#1 else 0#1 := by
  have h : ∀ a b : Fin 16, IntOp.cmpi .eq (BitVec.ofNat 32 a.val) (BitVec.ofNat 32 b.val) = if a = b then 1#1 else 0#1 := by
    decide
  rw [h, h, ori_ite]

/-- Local expert `j` of device `c`, in the numbering of all sixteen. -/
def mine (c : Dev nD) (j : Fin 4) : Fin 16 := ⟨4 * c.val + j.val, by have := c.isLt; have := j.isLt; show _ < 16; have : nD = 4 := rfl; omega⟩

/-- The selector's entry: expert `e` is local expert `j` of device `c`. -/
theorem mine_bit : ∀ (c : Dev nD) (j : Fin 4) (e : Fin 16),
    IntOp.cmpi .eq (BitVec.ofNat 32 e.val) (IntOp.addi (Scalar.muli 4#32 (wordOf c)) (BitVec.ofNat 32 j.val))
      = if e = mine c j then 1#1 else 0#1 := by decide

/-- Row `i`'s gate of expert `e` when it chose `e0` and `e1`: its probability if chosen, over the sum of those. -/
def gate (x : S2048x512.Idx → EReal) (rw : S512x16.Idx → EReal) (i : Fin 2048) (e0 e1 e : Fin 16) : EReal :=
  Ideal.div (prob x rw i e * (if e = e0 ∨ e = e1 then 1 else 0))
    (∑ e' : Fin 16, prob x rw i e' * (if e' = e0 ∨ e' = e1 then 1 else 0))

set_option maxRecDepth 16384 in
theorem pay4_apply (w : BitVec 32) (p : FVec Ideal S2048x16 .f32) (a b : IVec S2048x16 1) (i : Fin 2048) (j : Fin 4) :
    k0_pay4 w p a b (ix2 i j)
      = ∑ e : Fin 16, Ideal.div (p (ix2 i e) * bit (IntOp.ori (a (ix2 i e)) (b (ix2 i e))))
            (∑ e' : Fin 16, p (ix2 i e') * bit (IntOp.ori (a (ix2 i e')) (b (ix2 i e'))))
          * bit (IntOp.cmpi .eq (BitVec.ofNat 32 e.val) (IntOp.addi (Scalar.muli 4#32 w) (BitVec.ofNat 32 j.val))) := by
  unfold bit
  pointwise [k0_pay4]

/-- An entry of a column of the chosen experts. -/
theorem icol_apply (idx : (cc0_stg2_0 : Ref sig .tc).ty.Contents (Elt Ideal)) (k : Fin 2) (i : Fin 2048) :
    icol idx k (ix2 i 0) = idx (ix2 i k) := by
  unfold icol
  refine congrArg idx ?_
  funext a
  apply Fin.ext
  match a with
  | ⟨0, _⟩ => simp
  | ⟨1, _⟩ => simp

/-- A device's gates are those of its own four experts. -/
theorem gat_apply (ins : Ins Ideal) (c : Dev nD) (i : Fin 2048) (j : Fin 4) (e0 e1 : Fin 16)
    (h0 : ins.idx c (ix2 i 0) = BitVec.ofNat 32 e0.val) (h1 : ins.idx c (ix2 i 1) = BitVec.ofNat 32 e1.val) :
    gat ins c (ix2 i j) = gate (ins.x c) (ins.rw c) i e0 e1 (mine c j) := by
  unfold gat gate
  rw [pay4_apply]
  simp only [pay1_apply, pay2_apply, pay3_apply, icol_apply, h0, h1, chosen_bit, mine_bit, bit_ite]
  simp

set_option maxRecDepth 16384 in
/-- A block's entry: four gates, each times its expert's product. -/
theorem blk_apply (xb : Vec Ideal S512x512 .f32) (gb : Vec Ideal S512x4 .f32) (w0 w1 w2 w3 : Vec Ideal S1x512x512 .f32)
    (a b : Fin 512) :
    blk xb gb w0 w1 w2 w3 (ix2 a b)
      = gb (ix2 a 0) * (∑ d : Fin 512, xb (ix2 a d) * w0 (ix3 0 d b)) + gb (ix2 a 1) * (∑ d : Fin 512, xb (ix2 a d) * w1 (ix3 0 d b))
        + gb (ix2 a 2) * (∑ d : Fin 512, xb (ix2 a d) * w2 (ix3 0 d b)) + gb (ix2 a 3) * (∑ d : Fin 512, xb (ix2 a d) * w3 (ix3 0 d b)) := by
  unfold blk
  pointwise [k0_pay5, k0_pay6, k0_pay7, k0_pay8, k0_pay9]

/-- The entries of the blocks a device reads. -/
theorem xq_apply (x : (cc0_stg0_0 : Ref sig .tc).ty.Contents (Elt Ideal)) (q : Dev nD) (a : Fin 512) (d : Fin 512) (h : 512 * q.val + a.val < 2048) :
    xq x q (ix2 a d) = x (ix2 ⟨512 * q.val + a.val, h⟩ d) := by
  unfold xq
  refine congrArg x ?_
  funext k
  apply Fin.ext
  match k with
  | ⟨0, _⟩ => simp [roff]
  | ⟨1, _⟩ => simp [roff]

theorem gq_apply (x : (cc0_scratch3 : Ref sig .tc).ty.Contents (Elt Ideal)) (q : Dev nD) (a : Fin 512) (d : Fin 4) (h : 512 * q.val + a.val < 2048) :
    gq x q (ix2 a d) = x (ix2 ⟨512 * q.val + a.val, h⟩ d) := by
  unfold gq
  refine congrArg x ?_
  funext k
  apply Fin.ext
  match k with
  | ⟨0, _⟩ => simp [roff]
  | ⟨1, _⟩ => simp [roff]

theorem wq_apply (w : (cc0_stg3_0 : Ref sig .tc).ty.Contents (Elt Ideal)) (j : Fin 4) (h : Fin 2) (d b : Fin 512) (hb : 512 * h.val + b.val < 1024) :
    wq w j h (ix3 0 d b) = w (ix3 j d ⟨512 * h.val + b.val, hb⟩) := by
  unfold wq
  refine congrArg w ?_
  funext k
  apply Fin.ext
  match k with
  | ⟨0, _⟩ => simp [woff]
  | ⟨1, _⟩ => simp [woff]
  | ⟨2, _⟩ => simp [woff]

end Cert.MoeProof
-- ==== Proof.Total.lean ====
/-
The array every device ends with, read at one entry: over all sixteen experts, the gate times the
row's product with that expert's matrix.
-/
module

public import proofs.«01_k».proof.Proof.Gate
public import proofs.«01_k».proof.Proof.Split

@[expose] public section

noncomputable section

namespace Cert.MoeProof

open Cert.KernelIdeal Cert.KernelIdeal.Gen
open Idealize.ShloMosaic

/-- Four devices reached in two exchanges are all of them. -/
theorem exchange_sum (f : Dev nD → EReal) (q : Dev nD) (h : Fin 2) :
    (f q + f (p1 h q)) + (f (p2 h q) + f (p1 h (p2 h q))) = ∑ c : Dev nD, f c := by
  have hs : ∑ c : Dev nD, f c = f 0 + f 1 + f 2 + f 3 := Fin.sum_univ_four f
  rw [hs]
  match h, q with
  | ⟨0, _⟩, ⟨0, _⟩ => show (f 0 + f 1) + (f 3 + f 2) = _; ac_rfl
  | ⟨0, _⟩, ⟨1, _⟩ => show (f 1 + f 0) + (f 2 + f 3) = _; ac_rfl
  | ⟨0, _⟩, ⟨2, _⟩ => show (f 2 + f 3) + (f 1 + f 0) = _; ac_rfl
  | ⟨0, _⟩, ⟨3, _⟩ => show (f 3 + f 2) + (f 0 + f 1) = _; ac_rfl
  | ⟨1, _⟩, ⟨0, _⟩ => show (f 0 + f 3) + (f 1 + f 2) = _; ac_rfl
  | ⟨1, _⟩, ⟨1, _⟩ => show (f 1 + f 2) + (f 0 + f 3) = _; ac_rfl
  | ⟨1, _⟩, ⟨2, _⟩ => show (f 2 + f 1) + (f 3 + f 0) = _; ac_rfl
  | ⟨1, _⟩, ⟨3, _⟩ => show (f 3 + f 0) + (f 2 + f 1) = _; ac_rfl

/-- The devices' own experts, device after device, are all the experts. -/
theorem mine_sum (t : Fin 16 → EReal) : ∑ c : Dev nD, ∑ j : Fin 4, t (mine c j) = ∑ e : Fin 16, t e :=
  (Fintype.sum_prod_type' fun (c : Fin 4) (j : Fin 4) => t (mine c j)).symm.trans
    (Fintype.sum_equiv (finProdFinEquiv (m := 4) (n := 4)) _ _ fun x => congrArg t (Fin.ext (Nat.add_comm _ _)))

section
variable (ins : Ins Ideal) (x : S2048x512.Idx → EReal) (r : S512x16.Idx → EReal) (W : (⟨3, ![16, 512, 1024]⟩ : Shape).Idx → EReal)
  (n : S2048x2.Idx → BitVec 32)
  (hx : ∀ c, ins.x c = x) (hr : ∀ c, ins.rw c = r) (hn : ∀ c, ins.idx c = n)
  (hW : ∀ c j d b, ins.ew c (ix3 j d b) = W (ix3 (mine c j) d b))
  (i : Fin 2048) (e : Fin 2 → Fin 16) (he : ∀ k, n (ix2 i k) = BitVec.ofNat 32 (e k).val)
include hx hr hn hW he

/-- A device's share of an entry: its four experts' gates times their products. -/
theorem part_apply (c q : Dev nD) (h : Fin 2) (a b : Fin 512) (hi : 512 * q.val + a.val = i.val) (hb : 512 * h.val + b.val < 1024) :
    part ins c q h (ix2 a b) = ∑ j : Fin 4, gate x r i (e 0) (e 1) (mine c j) * prod x W i (mine c j) ⟨512 * h.val + b.val, hb⟩ := by
  have hlt : 512 * q.val + a.val < 2048 := hi ▸ i.isLt
  have hi' : (⟨512 * q.val + a.val, hlt⟩ : Fin 2048) = i := Fin.ext hi
  unfold part prod
  rw [blk_apply, Fin.sum_univ_four]
  simp only [xq_apply _ q a _ hlt, gq_apply _ q a _ hlt, wq_apply _ _ h _ b hb, hi', hW,
    fun j => gat_apply ins c i j (e 0) (e 1) (by rw [hn]; exact he 0) (by rw [hn]; exact he 1), hx, hr]

/-- The array at an entry: every expert's gate times its product. -/
theorem outAt_apply (b : Fin 1024) :
    outAt ins (ix2 i b) = ∑ k : Fin 16, gate x r i (e 0) (e 1) k * prod x W i k b := by
  have hi := i.isLt
  have hb := b.isLt
  let q : Dev nD := ⟨i.val / 512, by show _ < 4; omega⟩
  let h : Fin 2 := ⟨b.val / 512, by omega⟩
  let a' : Fin 512 := ⟨i.val % 512, by omega⟩
  let b' : Fin 512 := ⟨b.val % 512, by omega⟩
  have hqa : 512 * q.val + a'.val = i.val := by show 512 * (i.val / 512) + i.val % 512 = i.val; omega
  have hhb : 512 * h.val + b'.val = b.val := by show 512 * (b.val / 512) + b.val % 512 = b.val; omega
  have hemb : (ix2 i b : S2048x1024.Idx) = (rB (q, h)).emb (ix2 a' b') := by
    funext k
    apply Fin.ext
    match k with
    | ⟨0, _⟩ => show i.val = 512 * q.val + 1 * a'.val; omega
    | ⟨1, _⟩ => show b.val = 512 * h.val + 1 * b'.val; omega
  have hlt : 512 * h.val + b'.val < 1024 := hhb ▸ hb
  have hp : ∀ c, part ins c q h (ix2 a' b') = ∑ j : Fin 4, gate x r i (e 0) (e 1) (mine c j) * prod x W i (mine c j) b := fun c => by
    rw [part_apply ins x r W n hx hr hn hW i e he c q h a' b' hqa hlt, show (⟨512 * h.val + b'.val, hlt⟩ : Fin 1024) = b from Fin.ext hhb]
  rw [hemb]
  unfold outAt
  rw [glue_emb rB rB_disj rB_cov]
  show (part ins q q h (ix2 a' b') + part ins (p1 h q) q h (ix2 a' b'))
    + (part ins (p2 h q) q h (ix2 a' b') + part ins (p1 h (p2 h q)) q h (ix2 a' b')) = _
  rw [exchange_sum (fun c => part ins c q h (ix2 a' b')) q h]
  simp only [hp]
  exact mine_sum fun k => gate x r i (e 0) (e 1) k * prod x W i k b
end

end Cert.MoeProof
-- ==== Proof.RefValue.lean ====
/-
The reference's result read at one entry: the two chosen experts' probabilities over their sum, each
times the row's product with that expert's matrix.
-/
module

public import proofs.«01_k».proof.Proof.Gate
public import proofs.«01_k».proof.Proof.Gen.ReferenceIdeal.Run

@[expose] public section

noncomputable section

namespace Cert.MoeProof

open Cert.ReferenceIdeal Cert.ReferenceIdeal.Gen
open Idealize.ShloMosaic Idealize.ShloMosaic.TcCoe Idealize.SL.Sem

/-- The dimension numbers of the two gathers. -/
abbrev dP := gather_S2048x16_S2048x2x1_S2048x2_n_1_0_0_1_2_11
abbrev dY := gather_S2048x16x1024_S2048x2x1_S2048x2x1024_2_1_0_0_1_2_111024

/-- An expert's number, read back from its word. -/
theorem word_toNat (e : Fin 16) : (BitVec.ofNat 32 e.val).toInt.toNat = e.val := by revert e; decide

set_option maxRecDepth 16384 in
/-- A row's probability of the expert its index names. -/
theorem gather_prob {α : Type} (x : S2048x16.Idx → α) (ind : IVec S2048x2x1 32) (i : Fin 2048) (k : Fin 2) (e : Fin 16)
    (h : ind (ix3 i k 0) = BitVec.ofNat 32 e.val) :
    Host.gather gather_S2048x16_S2048x2x1_S2048x2_n_1_0_0_1_2_11 x ind (ix2 i k) = x (ix2 i e) := by
  have hs : ∀ n, GatherDims.siIdx dP (ix2 i k) n = ix3 i k 0 := fun n => by
    funext b
    match b with
    | ⟨0, _⟩ => rfl
    | ⟨1, _⟩ => rfl
    | ⟨2, _⟩ => exact Subsingleton.elim (α := Fin 1) _ _
  have s0 : GatherDims.start dP (ix2 i k) ind 0 = 0 := rfl
  have s1 : GatherDims.start dP (ix2 i k) ind 1 = e.val := by
    unfold GatherDims.start
    rw [dif_pos (by decide), hs, h, word_toNat]
    have := e.isLt
    exact Nat.min_eq_left (by show e.val ≤ 16 - 1; omega)
  have b0 : GatherDims.batchCoord dP (ix2 i k) 0 = i.val := rfl
  have b1 : GatherDims.batchCoord dP (ix2 i k) 1 = 0 := rfl
  have o0 : GatherDims.offCoord dP (ix2 i k) 0 = 0 := rfl
  have o1 : GatherDims.offCoord dP (ix2 i k) 1 = 0 := rfl
  unfold Host.gather
  refine congrArg x (funext fun a => Fin.ext ?_)
  match a with
  | ⟨0, _⟩ =>
    show GatherDims.start dP (ix2 i k) ind 0 + GatherDims.batchCoord dP (ix2 i k) 0 + GatherDims.offCoord dP (ix2 i k) 0 = i.val
    rw [s0, b0, o0]; omega
  | ⟨1, _⟩ =>
    show GatherDims.start dP (ix2 i k) ind 1 + GatherDims.batchCoord dP (ix2 i k) 1 + GatherDims.offCoord dP (ix2 i k) 1 = e.val
    rw [s1, b1, o1]; rfl

set_option maxRecDepth 16384 in
/-- A row's product with the matrix of the expert its index names. -/
theorem gather_rows {α : Type} (x : S2048x16x1024.Idx → α) (ind : IVec S2048x2x1 32) (i : Fin 2048) (k : Fin 2) (b : Fin 1024) (e : Fin 16)
    (h : ind (ix3 i k 0) = BitVec.ofNat 32 e.val) :
    Host.gather gather_S2048x16x1024_S2048x2x1_S2048x2x1024_2_1_0_0_1_2_111024 x ind (ix3 i k b) = x (ix3 i e b) := by
  have hs : ∀ n, GatherDims.siIdx dY (ix3 i k b) n = ix3 i k 0 := fun n => by
    funext b
    match b with
    | ⟨0, _⟩ => rfl
    | ⟨1, _⟩ => rfl
    | ⟨2, _⟩ => exact Subsingleton.elim (α := Fin 1) _ _
  have s0 : GatherDims.start dY (ix3 i k b) ind 0 = 0 := rfl
  have s1 : GatherDims.start dY (ix3 i k b) ind 1 = e.val := by
    unfold GatherDims.start
    rw [dif_pos (by decide), hs, h, word_toNat]
    have := e.isLt
    exact Nat.min_eq_left (by show e.val ≤ 16 - 1; omega)
  have s2 : GatherDims.start dY (ix3 i k b) ind 2 = 0 := rfl
  have b0 : GatherDims.batchCoord dY (ix3 i k b) 0 = i.val := rfl
  have b1 : GatherDims.batchCoord dY (ix3 i k b) 1 = 0 := rfl
  have b2 : GatherDims.batchCoord dY (ix3 i k b) 2 = 0 := rfl
  have o0 : GatherDims.offCoord dY (ix3 i k b) 0 = 0 := rfl
  have o1 : GatherDims.offCoord dY (ix3 i k b) 1 = 0 := rfl
  have o2 : GatherDims.offCoord dY (ix3 i k b) 2 = b.val := rfl
  unfold Host.gather
  refine congrArg x (funext fun a => Fin.ext ?_)
  match a with
  | ⟨0, _⟩ =>
    show GatherDims.start dY (ix3 i k b) ind 0 + GatherDims.batchCoord dY (ix3 i k b) 0 + GatherDims.offCoord dY (ix3 i k b) 0 = i.val
    rw [s0, b0, o0]; omega
  | ⟨1, _⟩ =>
    show GatherDims.start dY (ix3 i k b) ind 1 + GatherDims.batchCoord dY (ix3 i k b) 1 + GatherDims.offCoord dY (ix3 i k b) 1 = e.val
    rw [s1, b1, o1]; rfl
  | ⟨2, _⟩ =>
    show GatherDims.start dY (ix3 i k b) ind 2 + GatherDims.batchCoord dY (ix3 i k b) 2 + GatherDims.offCoord dY (ix3 i k b) 2 = b.val
    rw [s2, b2, o2]; omega

/-- A non-negative index stands as it is. -/
theorem wrap_word (e : Fin 16) (a : BitVec 32) :
    Scalar.select (IntOp.cmpi .slt (BitVec.ofNat 32 e.val) 0#32) a (BitVec.ofNat 32 e.val) = BitVec.ofNat 32 e.val := by
  have : IntOp.cmpi .slt (BitVec.ofNat 32 e.val) 0#32 = 0#1 := by revert e; decide
  rw [this]; rfl

set_option maxRecDepth 16384 in
/-- The reference's result at one entry, where row `i` names the experts `e 0` and `e 1`. -/
theorem ref_apply (m : (ℓ : Loc nD τ sig) → Buf (Elt Ideal) ℓ) (c : Dev nD) (i : Fin 2048) (b : Fin 1024) (e : Fin 2 → Fin 16)
    (he : ∀ k, m (c.tc.loc main_arg2) (ix2 i k) = BitVec.ofNat 32 (e k).val) :
    Value.res_main_v27 m c (ix2 i b)
      = Ideal.div (prob (m (c.tc.loc main_arg0)) (m (c.tc.loc main_arg1)) i (e 0))
            (prob (m (c.tc.loc main_arg0)) (m (c.tc.loc main_arg1)) i (e 0) + prob (m (c.tc.loc main_arg0)) (m (c.tc.loc main_arg1)) i (e 1))
          * prod (m (c.tc.loc main_arg0)) (m (c.tc.loc main_arg3)) i (e 0) b
        + Ideal.div (prob (m (c.tc.loc main_arg0)) (m (c.tc.loc main_arg1)) i (e 1))
            (prob (m (c.tc.loc main_arg0)) (m (c.tc.loc main_arg1)) i (e 0) + prob (m (c.tc.loc main_arg0)) (m (c.tc.loc main_arg1)) i (e 1))
          * prod (m (c.tc.loc main_arg0)) (m (c.tc.loc main_arg3)) i (e 1) b := by
  unfold Value.res_main_v27
  generalize m (c.tc.loc main_arg0) = x at *
  generalize m (c.tc.loc main_arg1) = r at *
  generalize m (c.tc.loc main_arg2) = n at *
  generalize m (c.tc.loc main_arg3) = w at *
  pointwise
  rw [gather_prob _ _ i 0 (e 0) (by pointwise; rw [he, wrap_word]), gather_prob _ _ i 1 (e 1) (by pointwise; rw [he, wrap_word]),
    gather_rows _ _ i 0 b (e 0) (by pointwise; rw [he, wrap_word]), gather_rows _ _ i 1 b (e 1) (by pointwise; rw [he, wrap_word])]
  unfold prob expo topScore score prod
  pointwise

end Cert.MoeProof
-- ==== Proof.Arith.lean ====
/-
The equation on extended reals: with finite tokens and a finite router every probability is a positive
real, and then the gated sum over all sixteen experts is the sum over a row's two.
-/
module

public import proofs.«01_k».proof.Proof.Gate

@[expose] public section

noncomputable section

namespace Cert.MoeProof

open Cert.KernelIdeal
open Idealize.ShloMosaic

/-- A real number, and a positive one. -/
def IsReal (a : EReal) : Prop := ∃ r : ℝ, a = (r : EReal)
def IsPos (a : EReal) : Prop := ∃ r : ℝ, 0 < r ∧ a = (r : EReal)

theorem IsReal.add {a b : EReal} : IsReal a → IsReal b → IsReal (a + b) := fun ⟨r, hr⟩ ⟨s, hs⟩ => ⟨r + s, by rw [hr, hs, EReal.coe_add]⟩
theorem IsReal.mul {a b : EReal} : IsReal a → IsReal b → IsReal (a * b) := fun ⟨r, hr⟩ ⟨s, hs⟩ => ⟨r * s, by rw [hr, hs, EReal.coe_mul]⟩
theorem IsPos.add {a b : EReal} : IsPos a → IsPos b → IsPos (a + b) :=
  fun ⟨r, hr0, hr⟩ ⟨s, hs0, hs⟩ => ⟨r + s, add_pos hr0 hs0, by rw [hr, hs, EReal.coe_add]⟩
theorem IsPos.div {a b : EReal} : IsPos a → IsPos b → IsPos (Ideal.div a b) :=
  fun ⟨r, hr0, hr⟩ ⟨s, hs0, hs⟩ => ⟨r * (1 / s), mul_pos hr0 (one_div_pos.mpr hs0), by rw [hr, hs, Ideal.div_coe hs0.ne', EReal.coe_mul]⟩

section Positive
variable {x : S2048x512.Idx → EReal} {r' : S512x16.Idx → EReal} (hx : ∀ i, IsReal (x i)) (hr : ∀ i, IsReal (r' i)) (i : Fin 2048)
include hx hr

/-- A score is real, -/
theorem score_real (e : Fin 16) : IsReal (score x r' i e) :=
  Finset.sum_induction _ IsReal (fun _ _ => IsReal.add) ⟨0, EReal.coe_zero.symm⟩ fun k _ => (hx _).mul (hr _)

/-- so is the largest of a row, -/
theorem topScore_real : IsReal (topScore x r' i) := by
  have hbot : Ideal.ofBits .f32 0xFF800000#32 = ⊥ := by simp [Ideal.ofBits, Ideal.ieee]
  have h1 : topScore x r' i ≠ ⊤ := by
    refine ne_of_lt (Finset.fold_max_lt _ |>.mpr ⟨?_, fun e _ => ?_⟩)
    · rw [hbot]; exact bot_lt_top
    · obtain ⟨r, h⟩ := score_real hx hr i e; rw [h]; exact EReal.coe_lt_top r
  have h2 : topScore x r' i ≠ ⊥ := by
    have : score x r' i 0 ≤ topScore x r' i := Finset.le_fold_max _ |>.mpr (Or.inr ⟨0, Finset.mem_univ _, le_rfl⟩)
    obtain ⟨r, h⟩ := score_real hx hr i 0
    rw [h] at this
    exact ne_of_gt (lt_of_lt_of_le (EReal.bot_lt_coe r) this)
  exact ⟨_, (EReal.coe_toReal h1 h2).symm⟩

/-- an exponential is positive, -/
theorem expo_pos (e : Fin 16) : IsPos (expo x r' i e) := by
  obtain ⟨s, hs⟩ := score_real hx hr i e
  obtain ⟨t, ht⟩ := topScore_real hx hr i
  refine ⟨Real.exp (s - t), Real.exp_pos _, ?_⟩
  unfold expo
  rw [hs, ht, ← EReal.coe_sub, Ideal.exp_coe]

/-- and so is a probability. -/
theorem prob_pos (e : Fin 16) : IsPos (prob x r' i e) :=
  (expo_pos hx hr i e).div (Finset.sum_induction_nonempty _ IsPos (fun _ _ => IsPos.add) Finset.univ_nonempty fun e _ => expo_pos hx hr i e)
end Positive

theorem div_zero_pos {b : EReal} (h : IsPos b) : Ideal.div 0 b = 0 := by
  obtain ⟨s, hs0, rfl⟩ := h
  rw [Ideal.div_coe hs0.ne', zero_mul]

/-- The gated sum over all experts is the weighted sum over the two chosen ones, whatever the experts' products are. -/
theorem gated_sum (p y : Fin 16 → EReal) (hp : ∀ e, IsPos (p e)) (e0 e1 : Fin 16) :
    ∑ e : Fin 16, Ideal.div (p e * (if e = e0 ∨ e = e1 then 1 else 0)) (∑ e' : Fin 16, p e' * (if e' = e0 ∨ e' = e1 then 1 else 0)) * y e
      = Ideal.div (p e0) (p e0 + p e1) * y e0 + Ideal.div (p e1) (p e0 + p e1) * y e1 := by
  by_cases h : e0 = e1
  · subst h
    have hS : (∑ e' : Fin 16, p e' * (if e' = e0 ∨ e' = e0 then 1 else 0)) = p e0 := by
      rw [Fintype.sum_eq_single e0 fun e he => by rw [if_neg (by tauto), mul_zero], if_pos (Or.inl rfl), mul_one]
    rw [hS, Fintype.sum_eq_single e0 fun e he => by rw [if_neg (by tauto), mul_zero, div_zero_pos (hp e0), zero_mul], if_pos (Or.inl rfl), mul_one]
    obtain ⟨r, hr0, hr⟩ := hp e0
    have h2 : (0 : ℝ) < r + r := add_pos hr0 hr0
    rw [hr, ← EReal.coe_add, Ideal.div_coe hr0.ne', Ideal.div_coe h2.ne', ← EReal.coe_mul, ← EReal.coe_mul,
      ← EReal.right_distrib_of_nonneg (by exact_mod_cast (by positivity)) (by exact_mod_cast (by positivity)), ← EReal.coe_add]
    congr 2
    field_simp
  · have hS : (∑ e' : Fin 16, p e' * (if e' = e0 ∨ e' = e1 then 1 else 0)) = p e0 + p e1 := by
      rw [Fintype.sum_eq_add e0 e1 h fun e he => by rw [if_neg (by tauto), mul_zero], if_pos (Or.inl rfl), if_pos (Or.inr rfl), mul_one, mul_one]
    rw [hS, Fintype.sum_eq_add e0 e1 h fun e he => by rw [if_neg (by tauto), mul_zero, div_zero_pos ((hp e0).add (hp e1)), zero_mul],
      if_pos (Or.inl rfl), if_pos (Or.inr rfl), mul_one, mul_one]

end Cert.MoeProof
-- ==== Proof.Tame.lean ====
/-
What the precondition says of one device's arguments: the tokens and the router are finite, and every
chosen expert is one of the sixteen.
-/
module

public import proofs.«01_k».proof.Proof.Arith
public import proofs.«01_k».proof.Proof.Gen.Pre_tame_KernelIdeal
public import Idealize.ShloMosaic.Lib.ReduceAll

@[expose] public section

noncomputable section

namespace Cert.MoeProof

open Cert.KernelIdeal
open Idealize.ShloMosaic

/-- Two bits whose conjunction is set are set. -/
theorem both_set : ∀ a b : BitVec 1, IntOp.andi a b = 1#1 → a = 1#1 ∧ b = 1#1 := by decide

/-- A magnitude below `+∞` is a real number's. -/
theorem real_of_abs (a : EReal) (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  have hlt : max a (-a) < ⊤ := by
    by_contra hn
    have h0 : Ideal.cmp .olt (max a (-a)) ⊤ = 0#1 := by simp [Ideal.cmp, hn]
    rw [h0] at h
    exact absurd h (by decide)
  have h1 : a ≠ ⊤ := fun e => by rw [e] at hlt; simp at hlt
  have h2 : a ≠ ⊥ := fun e => by rw [e] at hlt; simp at hlt
  exact ⟨_, (EReal.coe_toReal h1 h2).symm⟩

/-- A word at least 0 and below 16, read signed, is the word of an expert's number. -/
theorem expert_of_word (a : BitVec 32) (h0 : IntOp.cmpi .sge a 0#32 = 1#1) (h1 : IntOp.cmpi .slt a 16#32 = 1#1) :
    ∃ e : Fin 16, a = BitVec.ofNat 32 e.val := by
  have h0 : 0 ≤ a.toInt := IntOp.cmpi_sge.mp h0
  have h1 : a.toInt < 16 := IntOp.cmpi_slt.mp h1
  have hl := a.isLt
  rw [BitVec.toInt_eq_toNat_cond] at h0 h1
  have : a.toNat < 16 := by split at h0 <;> omega
  exact ⟨⟨a.toNat, this⟩, by simp⟩

/-- The precondition, entry by entry. -/
theorem tame_entries (x : FVec Ideal S2048x512 .f32) (r : FVec Ideal S512x16 .f32) (n : IVec S2048x2 32) (w : FVec Ideal S4x512x1024 .f32)
    (h : Cert.Pre_tame_KernelIdeal.fn x r n w = fun _ => 1#1) :
    (∀ i, IsReal (x i)) ∧ (∀ i, IsReal (r i)) ∧ ∀ i, ∃ e : Fin 16, n i = BitVec.ofNat 32 e.val := by
  have h := congrFun h (Shape.Idx.first Cert.Pre_tame_KernelIdeal.Facts.h_S_)
  dsimp only [Cert.Pre_tame_KernelIdeal.fn] at h
  obtain ⟨h', hn⟩ := both_set _ _ h
  obtain ⟨hx, hr⟩ := both_set _ _ h'
  refine ⟨fun i => real_of_abs _ (Host.reduce_andi_all _ _ _ _ _ hx i), fun i => real_of_abs _ (Host.reduce_andi_all _ _ _ _ _ hr i), fun i => ?_⟩
  obtain ⟨a, b⟩ := both_set _ _ (Host.reduce_andi_all _ _ _ _ _ hn i)
  exact expert_of_word _ a b

end Cert.MoeProof
-- ==== Proof.Value.lean ====
/-
The value claim: at the extended reals, where the tokens and the router are finite and the indices
name experts, every device's result array is the reference's.
-/
module

public import proofs.«01_k».proof.Defs
public import proofs.«01_k».proof.Proof.Frames
public import proofs.«01_k».proof.Proof.Total
public import proofs.«01_k».proof.Proof.RefValue
public import proofs.«01_k».proof.Proof.Tame

@[expose] public section

noncomputable section

namespace Cert.MoeProof

open Cert.KernelIdeal Cert.KernelIdeal.Gen
open Idealize.ShloMosaic Idealize.ShloMosaic.TcCoe Idealize.SL.Sem

/-- A device's block of the experts' matrices holds its own four experts. -/
theorem block_apply (W : (⟨3, ![16, 512, 1024]⟩ : Shape).Idx → EReal) (c : Dev nD) (j : Fin 4) (d : Fin 512) (b : Fin 1024) :
    Layout.block ⟨3, ![4, 512, 1024]⟩ ⟨3, ![16, 512, 1024]⟩ 0 4 c W (by decide) (ix3 j d b) = W (ix3 (mine c j) d b) := by
  rw [Layout.block_apply]
  refine congrArg W (funext fun k => Fin.ext ?_)
  rw [Layout.Tiles.idx_val]
  match k with
  | ⟨0, _⟩ => show c.val * 4 + j.val = 4 * c.val + j.val; omega
  | ⟨1, _⟩ => rfl
  | ⟨2, _⟩ => rfl

variable (m : (ℓ : Loc nD τ sig) → Buf (Elt Ideal) ℓ) (m' : (ℓ : Loc Cert.ReferenceIdeal.nD Cert.ReferenceIdeal.τ Cert.ReferenceIdeal.sig) → Buf (Elt Ideal) ℓ)

/-- Under the precondition the array assembled from the devices' arguments is the reference's result of the whole arrays. -/
theorem result_eq (hp : Cert.Pre_KernelIdeal_tame_KernelIdeal m)
    (hm : ∀ c : Dev nD,
      m ((c : Thread nD τ).loc main_arg0) = m' (((0 : Dev Cert.ReferenceIdeal.nD).tc : Thread Cert.ReferenceIdeal.nD Cert.ReferenceIdeal.τ).loc Cert.ReferenceIdeal.main_arg0)
      ∧ m ((c : Thread nD τ).loc main_arg1) = m' (((0 : Dev Cert.ReferenceIdeal.nD).tc : Thread Cert.ReferenceIdeal.nD Cert.ReferenceIdeal.τ).loc Cert.ReferenceIdeal.main_arg1)
      ∧ m ((c : Thread nD τ).loc main_arg2) = m' (((0 : Dev Cert.ReferenceIdeal.nD).tc : Thread Cert.ReferenceIdeal.nD Cert.ReferenceIdeal.τ).loc Cert.ReferenceIdeal.main_arg2)
      ∧ m ((c : Thread nD τ).loc main_arg3) = Layout.block ⟨3, ![4, 512, 1024]⟩ ⟨3, ![16, 512, 1024]⟩ 0 4 c
          (m' (((0 : Dev Cert.ReferenceIdeal.nD).tc : Thread Cert.ReferenceIdeal.nD Cert.ReferenceIdeal.τ).loc Cert.ReferenceIdeal.main_arg3))) :
    outAt (argsOf m) = Cert.ReferenceIdeal.Value.res_main_v27 m' 0 := by
  obtain ⟨hx, hr, hn⟩ := tame_entries _ _ _ _ (hp 0)
  rw [(hm 0).1] at hx
  rw [(hm 0).2.1] at hr
  rw [(hm 0).2.2.1] at hn
  choose e he using hn
  funext y
  obtain ⟨i, b, rfl⟩ : ∃ (i : Fin 2048) (b : Fin 1024), y = ix2 i b := ⟨y 0, y 1, eq_ix2 y⟩
  refine (outAt_apply (argsOf m) _ _ _ _ (fun c => (hm c).1) (fun c => (hm c).2.1) (fun c => (hm c).2.2.1)
    (fun c j d b => (congrFun (hm c).2.2.2 _).trans (block_apply _ c j d b)) i (fun k => e (ix2 i k)) (fun k => he (ix2 i k)) b).trans ?_
  refine Eq.trans ?_ (ref_apply m' 0 i b (fun k => e (ix2 i k)) (fun k => he (ix2 i k))).symm
  exact gated_sum _ _ (prob_pos hx hr i) _ _

/-- Both programs run, and every device's result is the reference's. -/
theorem algebraic : Cert.algebraic_KernelIdeal_ReferenceIdeal_pre_tame_KernelIdeal := by
  intro m g m' g' hp hm
  refine ⟨Cert.ReferenceIdeal.Value.res_main_v27 m' 0, ?_, ?_⟩
  · refine (θ_run defs _ _).mono (fun _ h c => ?_) (run_result m g)
    exact ⟨(h c).1.trans (result_eq m m' hp hm), (h c).2⟩
  · exact (θ_run Cert.ReferenceIdeal.defs _ _).mono (fun _ h => h 0) (Cert.ReferenceIdeal.Value.run m' g')

end Cert.MoeProof
-- ==== Proof.lean ====
/-
The certificate: every claim from the theorem that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tame_KernelIdeal
public import proofs.«01_k».proof.Proof.Gen.Pre_tame_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Pre_tame_KernelIdeal.Gen.facts, Cert.Pre_tame_ReferenceIdeal.Gen.facts,
  Cert.MoeProof.frame_kernel, Cert.MoeProof.frame_ideal, fun m g _ => Cert.MoeProof.frame_ideal m g trivial,
  Cert.MoeProof.frame_reference, fun m g _ => Cert.MoeProof.frame_reference m g trivial, trivial, Cert.MoeProof.algebraic⟩

end Cert.Proof

end
